-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_tame_KernelIdeal [hPre_inputs_tame_KernelIdeal : Cert.Pre_inputs_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame_ReferenceIdeal [hPre_inputs_tame_ReferenceIdeal : Cert.Pre_inputs_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_tame_KernelIdeal [hKernelIdeal : Cert.KernelIdeal.Facts] [hPre_inputs_tame_KernelIdeal : Cert.Pre_inputs_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_tame_ReferenceIdeal [hReferenceIdeal : Cert.ReferenceIdeal.Facts] [hPre_inputs_tame_ReferenceIdeal : Cert.Pre_inputs_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs_tame_KernelIdeal [hKernelIdeal : Cert.KernelIdeal.Facts] [hReferenceIdeal : Cert.ReferenceIdeal.Facts] [hPre_inputs_tame_KernelIdeal : Cert.Pre_inputs_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_tame_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_tame_KernelIdeal : Cert.Pre_inputs_tame_KernelIdeal.Facts) (hPre_inputs_tame_ReferenceIdeal : Cert.Pre_inputs_tame_ReferenceIdeal.Facts),
    quiescent_Kernel (hKernel := hKernel)
    ∧ quiescent_KernelIdeal (hKernelIdeal := hKernelIdeal)
    ∧ quiescent_KernelIdeal_pre_inputs_tame_KernelIdeal (hKernelIdeal := hKernelIdeal) (hPre_inputs_tame_KernelIdeal := hPre_inputs_tame_KernelIdeal)
    ∧ quiescent_ReferenceIdeal (hReferenceIdeal := hReferenceIdeal)
    ∧ quiescent_ReferenceIdeal_pre_inputs_tame_ReferenceIdeal (hReferenceIdeal := hReferenceIdeal) (hPre_inputs_tame_ReferenceIdeal := hPre_inputs_tame_ReferenceIdeal)
    ∧ preserves_Kernel_KernelIdeal
    ∧ algebraic_KernelIdeal_ReferenceIdeal_pre_inputs_tame_KernelIdeal (hKernelIdeal := hKernelIdeal) (hReferenceIdeal := hReferenceIdeal) (hPre_inputs_tame_KernelIdeal := hPre_inputs_tame_KernelIdeal)
-- ==== Pre_inputs_tame_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x512 .f32) (main_arg1 : FVec F S512x4096 .f32) (main_arg2 : IVec S256 32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_c_4 : IVec S_ 32 := constantI S_ 32 8192#32
  let main_v13 : IVec S256 32 := broadcastInDim S256 ![] bcast_S_S256 main_c_4
  let main_v14 : IVec S256 1 := cmpi .slt main_arg2 main_v13
  let main_c_5 : IVec S_ 1 := constantI S_ 1 1#1
  let main_v15 : IVec S_ 1 := (fun x v => Host.reduce IntOp.andi x v reducesTo_S256_S_d0 h_S_) main_v14 main_c_5
  fn_part1 (F := F) main_v12 main_v15
-- ==== Pre_inputs_tame_ReferenceIdeal.lean ====
abbrev S256x512 : Shape := ⟨2, ![256, 512]⟩
abbrev S512x8192 : Shape := ⟨2, ![512, 8192]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x512 .f32) (main_arg1 : FVec F S512x8192 .f32) (main_arg2 : IVec S256 32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_c_4 : IVec S_ 32 := constantI S_ 32 8192#32
  let main_v13 : IVec S256 32 := broadcastInDim S256 ![] bcast_S_S256 main_c_4
  let main_v14 : IVec S256 1 := cmpi .slt main_arg2 main_v13
  let main_c_5 : IVec S_ 1 := constantI S_ 1 1#1
  let main_v15 : IVec S_ 1 := (fun x v => Host.reduce IntOp.andi x v reducesTo_S256_S_d0 h_S_) main_v14 main_c_5
  fn_part1 (F := F) main_v12 main_v15
-- ==== Kernel.lean ====
abbrev S256x512 : Shape := ⟨2, ![256, 512]⟩
abbrev S512x4096 : Shape := ⟨2, ![512, 4096]⟩
abbrev S256 : Shape := ⟨1, ![256]⟩
abbrev S2x256 : Shape := ⟨2, ![2, 256]⟩
abbrev S_ : Shape := ⟨0, ![]⟩
abbrev S2 : Shape := ⟨1, ![2]⟩
abbrev S1 : Shape := ⟨1, ![1]⟩
abbrev S256x4096 : Shape := ⟨2, ![256, 4096]⟩
abbrev S256x1 : Shape := ⟨2, ![256, 1]⟩
abbrev S512x512 : Shape := ⟨2, ![512, 512]⟩
abbrev S1x256 : Shape := ⟨2, ![1, 256]⟩

abbrev nBuf : Space → Nat
  | .hbm => 4
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256, .i32⟩
  | .hbm, ⟨3, _⟩ => ⟨S256, .f32⟩
  | .local _ .vmem, ⟨0, _⟩ => ⟨S256, .f32⟩
  | .local _ .vmem, ⟨1, _⟩ => ⟨S256x512, .f32⟩
  | .local _ .vmem, ⟨2, _⟩ => ⟨S256, .i32⟩
  | .local _ .vmem, ⟨3, _⟩ => ⟨S512x4096, .f32⟩
  | .local _ .vmem, ⟨4, _⟩ => ⟨S2x256, .f32⟩
  | .local _ .vmem, ⟨5, _⟩ => ⟨S2x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v172 : BitVec 32 := Scalar.muli v2 c4_i32_76
  let v173 : BitVec 32 := Scalar.addi c0_i32_77 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v174 : BitVec 32 := Scalar.muli v5 c2_i32_78
  let v175 : BitVec 32 := Scalar.addi v173 v174
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_79 : BitVec 32 := 1#32
  let v176 : BitVec 32 := Scalar.muli v9 c1_i32_79
  let v177 : BitVec 32 := Scalar.addi v175 v176
  v177.toNat
abbrev stage0_0 : Fin 1 → Memref sig .tc .vmem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256 : Shape := ⟨1, ![256]⟩
abbrev S256x8192 : Shape := ⟨2, ![256, 8192]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256, .i32⟩
  | .hbm, ⟨3, _⟩ => ⟨S256x8192, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x8192, .f32⟩
  | .hbm, ⟨8, _⟩ => ⟨S256x8192, .f32⟩
  | .hbm, ⟨9, _⟩ => ⟨S256x8192, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Protocol.lean ====
/-
The protocol of the split softmax: what the two devices of a pair tell each other, and with which contents.

Device `c` holds one half of the columns of `W`; its partner (`peer c`, the device whose number differs in the
last bit) holds the other half. Each device signals its partner's barrier semaphore, computes two rows of partial
sums over its own half, waits for its partner's signal, sends the two rows to the partner and waits for its own.
So per device three cells carry rounds — the barrier, the send and the receive semaphore — each with one round of
one duty. The four semaphores of the copies out of HBM are the core's own and carry none.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.CollectiveSegs
public import Idealize.ShloMosaic.Lib.Ring
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's staging rounds, the pair's rounds, the local copies' counters -/

abbrev PairUB : Type := URounds (GSem nD τ sig) Unit
abbrev PairUU : Type := UR sig nD τ × (PairUB × Counters)

local notation "𝕄" => MT nD τ sig Unit (Elt F) ℕ PairUU ℕ

abbrev EP : Emb (UR sig nD τ) (MT nD τ sig Unit (Elt F) ℕ PairUU ℕ) := embL
/-- The pair's rounds live in the middle component. -/
def ER : Emb PairUB (MT nD τ sig Unit (Elt F) ℕ PairUU ℕ) :=
  ((Emb.inl : Emb PairUB (PairUB × Counters)).trans (Emb.inr : Emb (PairUB × Counters) PairUU)).trans
    (uEmb (nD := nD) (sig := sig) (Ix := Unit) (Val := Elt F) (Name := ℕ) (U := PairUU) (Lvl := ℕ)).toEmb
instance ER_landsIn : (ER : Emb PairUB 𝕄).LandsIn (upEmb : UEmb _ 𝕄) := by unfold ER; infer_instance

variable (m : (ℓ : Loc nD τ sig) → Buf (Elt F) ℓ) (ρ : Dev nD → PrngReg)

/-! ## The pairs -/

/-- The partner: the device number with its last bit flipped. -/
def peer (c : Dev nD) : Dev nD := ⟨(4 * (c.val / 4) + 2 * ((c.val / 2) % 2) + 1) - c.val % 2, k0_dev1_eq c ▸ k0_dev1_lt c⟩

theorem peer_peer (c : Dev nD) : peer (peer c) = c := by revert c; decide

/-- The signal names the partner, -/
theorem signal_target (c : Dev nD) : (⟨k0_dev1 c, k0_dev1_lt c⟩ : Dev nD) = peer c := Fin.ext (k0_dev1_eq c)
/-- and so does the transfer. -/
theorem send_target (c : Dev nD) : (⟨k0_dev2 c, k0_dev2_lt c⟩ : Dev nD) = peer c := Fin.ext (k0_dev2_eq c)

/-- Swapping partners permutes the devices. -/
def swap : Dev nD ≃ Dev nD := ⟨peer, peer, peer_peer, peer_peer⟩

/-! ## Buffers and cells -/

abbrev outM : Memref sig .tc .vmem S256 .f32 := Memref.whole cc0_stg0_0
abbrev xvM : Memref sig .tc .vmem S256x512 .f32 := Memref.whole cc0_scratch0
abbrev lbM : Memref sig .tc .vmem S256 .i32 := Memref.whole cc0_scratch1
abbrev wbM : Memref sig .tc .vmem S512x4096 .f32 := Memref.whole cc0_scratch2
abbrev sdM : Memref sig .tc .vmem S2x256 .f32 := Memref.whole cc0_scratch3
abbrev rvM : Memref sig .tc .vmem S2x256 .f32 := Memref.whole cc0_scratch4

abbrev barS : Sem sig := (SemArray.scalar (sig.barrier 0 rfl) : Sems sig S_).sem
abbrev xS : DmaSems sig S_ := cc0_scratch5
abbrev labS : DmaSems sig S_ := cc0_scratch6
abbrev wS0 : DmaSems sig S_ := (cc0_scratch7.slice (Rect.unit (s := S2) ![0] S1.size inb_S2_S1_0)).squeeze S_ squeezes_S1_S_
abbrev wS1 : DmaSems sig S_ := (cc0_scratch7.slice (Rect.unit (s := S2) ![1] S1.size inb_S2_S1_1)).squeeze S_ squeezes_S1_S_
abbrev sendS : DmaSems sig S_ := cc0_scratch8
abbrev recvS : DmaSems sig S_ := cc0_scratch9

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The scoped semaphores of the kernel: of the four copies in, of the send and of the receive. -/
abbrev osem : Fin 6 → SemLoc sig := fun
  | 0 => .dma xS.sem | 1 => .dma labS.sem | 2 => .dma wS0.sem | 3 => .dma wS1.sem | 4 => .dma sendS.sem | 5 => .dma recvS.sem
/-- The semaphores whose cells carry rounds. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of the transfer: that of the two rows. -/
abbrev N : ℕ := (rvM : Memref sig .tc .vmem S2x256 .f32).view.dmaCredit
theorem N_pos : 0 < N := View.dmaCredit_pos _ (by decide)

/-! ## Contents -/

/-- The arguments of device `c` as launched. -/
def xOf (c : Dev nD) : Vec F S256x512 .f32 := m ((c : Thread nD τ).loc main_arg0)
def wOf (c : Dev nD) : Vec F S512x4096 .f32 := m ((c : Thread nD τ).loc main_arg1)
def labOf (c : Dev nD) : Vec F S256 .i32 := m ((c : Thread nD τ).loc main_arg2)

/-- 512 columns of the half of `W`, from column `o` on. -/
def lanes (W : Vec F S512x4096 .f32) (o : ℕ) (h : ∀ a, (![0, o] : Fin 2 → ℕ) a + S512x512.size a ≤ S512x4096.size a) : Vec F S512x512 .f32 :=
  (wbM : Memref sig .tc .vmem S512x4096 .f32).view.readAt (Elt F) (Rect.unit (s := S512x4096) ![0, o] S512x512.size h).toLoadRect W

/-- The number of the device's half, as the kernel computes it from the device's id. -/
def halfWord (c : Dev nD) : BitVec 32 := Scalar.remsi (Scalar.divsi (Dev.word c) 1#32) 2#32

/-- The running sum of exponentials after the first seven pieces of 512 columns, -/
def expRun (x : Vec F S256x512 .f32) (W : Vec F S512x4096 .f32) : FVec F S256x1 .f32 :=
  k0_pay16 x (k0_pay10 x (k0_pay4 x (lanes W 0 inb_S512x4096_S512x512_0_0)) (k0_pay7 x (lanes W 512 inb_S512x4096_S512x512_0_512))
      (lanes W 1024 inb_S512x4096_S512x512_0_1024) (lanes W 1536 inb_S512x4096_S512x512_0_1536))
    (lanes W 2048 inb_S512x4096_S512x512_0_2048) (lanes W 2560 inb_S512x4096_S512x512_0_2560) (lanes W 3072 inb_S512x4096_S512x512_0_3072)
/-- and the row of sums after all eight. -/
def expRow (x : Vec F S256x512 .f32) (W : Vec F S512x4096 .f32) : FVec F S1x256 .f32 :=
  k0_pay19 x (expRun x W) (lanes W 3584 inb_S512x4096_S512x512_0_3584)

/-- The column index along each row. -/
def colIota : IVec S256x512 32 := iota .tc S256x512 32 [1] iota_S256x512_d1_w32

/-- The running sum of the label's logit after the first six pieces, -/
def pickRun (v : BitVec 32) (x : Vec F S256x512 .f32) (W : Vec F S512x4096 .f32) (l : Vec F S256 .i32) : FVec F S256x1 .f32 :=
  k0_pay14 x (k0_pay2 (F := F) v l) colIota
    (k0_pay11 x (k0_pay2 (F := F) v l) colIota (k0_pay5 v x l (lanes W 0 inb_S512x4096_S512x512_0_0)) (k0_pay6 x (lanes W 512 inb_S512x4096_S512x512_0_512))
      (lanes W 1024 inb_S512x4096_S512x512_0_1024) (lanes W 1536 inb_S512x4096_S512x512_0_1536))
    (lanes W 2048 inb_S512x4096_S512x512_0_2048) (lanes W 2560 inb_S512x4096_S512x512_0_2560)
/-- and the row of the label's logits (0 where the label is in the other half) after all eight. -/
def pickRow (v : BitVec 32) (x : Vec F S256x512 .f32) (W : Vec F S512x4096 .f32) (l : Vec F S256 .i32) : FVec F S1x256 .f32 :=
  k0_pay20 x (k0_pay2 (F := F) v l) colIota (pickRun v x W l) (k0_pay17 x (k0_pay2 (F := F) v l) colIota (lanes W 3072 inb_S512x4096_S512x512_0_3072))
    (lanes W 3584 inb_S512x4096_S512x512_0_3584)

/-- The place of a two-row index in its row. -/
def inRow (i : S2x256.Idx) : S1x256.Idx := fun d => match d with
  | ⟨0, _⟩ => (0 : Fin 1)
  | ⟨1, _⟩ => (i 1 : Fin 256)

/-- Two rows of 256, one above the other. -/
def twoRows (a b : FVec F S1x256 .f32) : Vec F S2x256 .f32 :=
  fun i => if (i 0).val = 0 then a (inRow i) else b (inRow i)

/-- The two rows device `c` sends: its sums of exponentials and its label logits. -/
def sentBy (c : Dev nD) : Vec F S2x256 .f32 :=
  twoRows (expRow (xOf m c) (wOf m c)) (pickRow (halfWord c) (xOf m c) (wOf m c) (labOf m c))

/-- The result on device `c`: from its own two rows and its partner's. -/
def outOf (c : Dev nD) : Vec F S256 .f32 :=
  k0_pay1 (expRow (xOf m c) (wOf m c)) (pickRow (halfWord c) (xOf m c) (wOf m c) (labOf m c))
    (expRow (xOf m (peer c)) (wOf m (peer c))) (pickRow (halfWord (peer c)) (xOf m (peer c)) (wOf m (peer c)) (labOf m (peer c)))

/-- The receive buffer of device `c`, whole, at given contents; -/
def rvPts (c : Dev nD) (f : Vec F S2x256 .f32) : sProp 𝕄 :=
  (rvM : Memref sig .tc .vmem S2x256 .f32).view.loc (c : Thread nD τ) ↦[(rvM : Memref sig .tc .vmem S2x256 .f32).view.set]{fullShare} f
/-- the send buffer likewise. -/
def sdPts (c : Dev nD) (f : Vec F S2x256 .f32) : sProp 𝕄 :=
  (sdM : Memref sig .tc .vmem S2x256 .f32).view.loc (c : Thread nD τ) ↦[(sdM : Memref sig .tc .vmem S2x256 .f32).view.set]{fullShare} f

omit [FloatOps F] in
instance rvPts_storable (c : Dev nD) (f) : BI.Storable (upEmb : UEmb _ 𝕄) (rvPts (F := F) c f) := by unfold rvPts; infer_instance
omit [FloatOps F] in
instance sdPts_storable (c : Dev nD) (f) : BI.Storable (upEmb : UEmb _ 𝕄) (sdPts (F := F) c f) := by unfold sdPts; infer_instance

omit [FloatOps F] in
theorem rvPts_eq (c : Dev nD) (f : Vec F S2x256 .f32) : rvPts c f = (((c : Thread nD τ).loc cc0_scratch4) ↦{fullShare} f : sProp 𝕄) := by
  unfold rvPts; rw [View.set_whole]
omit [FloatOps F] in
theorem sdPts_eq (c : Dev nD) (f : Vec F S2x256 .f32) : sdPts c f = (((c : Thread nD τ).loc cc0_scratch3) ↦{fullShare} f : sProp 𝕄) := by
  unfold sdPts; rw [View.set_whole]

/-! ## The schedule -/

/-- What a signal from the partner of `c` gives `c`: the partner's receive buffer, to write into, and that the partner
    stands at round 0 of its receive cell. -/
def barPay (c : Dev nD) : sProp 𝕄 := iprop((∃ f, rvPts (peer c) f) ∗ reached ER (recvCell (peer c)) 0)

/-- Whether a cell carries a round. -/
abbrev Carries (g : GSem nD τ sig) : Prop := g.1.2 = .tc ∧ ∃ k, g.2 = csem k

/-- One round of one duty on every cell that carries rounds: one unit on a barrier, the two rows' credit on the other two. A
    landed transfer gives the receiver its buffer holding what the partner sent, and the sender its own buffer back. -/
def sched : Rounds.Schedule (GSem nD τ sig) Unit 𝕄 where
  duties g r := if r = 0 ∧ Carries g then {()} else ∅
  unitless _ := False
  amount g _ _ := if g.2 = .reg barS then 1 else N
  payload g _ _ :=
    if g.2 = .reg barS then barPay g.1.1
    else if g.2 = .dma recvS.sem then rvPts g.1.1 (sentBy m (peer g.1.1))
    else if g.2 = .dma sendS.sem then sdPts g.1.1 (sentBy m g.1.1)
    else iprop(emp)
  amount_pos g _ _ _ := by split; exacts [Nat.one_pos, N_pos]

instance sched_payload_storable (g : GSem nD τ sig) (r : ℕ) (d : Unit) : BI.Storable (upEmb : UEmb _ 𝕄) ((sched (F := F) m).payload g r d) := by
  show BI.Storable upEmb (if g.2 = .reg barS then barPay g.1.1 else if g.2 = .dma recvS.sem then rvPts g.1.1 (sentBy m (peer g.1.1))
    else if g.2 = .dma sendS.sem then sdPts g.1.1 (sentBy m g.1.1) else iprop(emp))
  unfold barPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide

/-- Each of the three cells has its one duty at round 0 -/
theorem duties_kcell (k : Fin 3) : (sched m).duties (kcell (c, k)) 0 = {()} := by
  dsimp only [sched]; exact if_pos ⟨rfl, rfl, k, rfl⟩
/-- and no cell any later. -/
theorem duties_later (g : GSem nD τ sig) : ∀ r, 1 ≤ r → (sched m).duties g r = ∅ := fun r hr => by
  dsimp only [sched]; exact if_neg fun h => by omega

theorem mem_duties (k : Fin 3) : () ∈ (sched m).duties (kcell (c, k)) 0 := by rw [duties_kcell]; exact Finset.mem_singleton_self _

theorem amount_bar (d : Unit) : (sched m).amount (barCell c) 0 d = 1 := by dsimp only [sched]; exact if_pos rfl
theorem amount_send (d : Unit) : (sched m).amount (sendCell c) 0 d = N := by dsimp only [sched]; exact if_neg send_ne_bar
theorem amount_recv (d : Unit) : (sched m).amount (recvCell c) 0 d = N := by dsimp only [sched]; exact if_neg recv_ne_bar

/-- What a cell's round comes to is its one duty's amount, -/
theorem expect_kcell (k : Fin 3) : (sched m).expect (kcell (c, k)) 0 = (sched m).amount (kcell (c, k)) 0 () := by
  unfold Schedule.expect Schedule.amountOf; rw [duties_kcell m c k, Finset.sum_singleton]
theorem expect_bar : (sched m).expect (barCell c) 0 = 1 := (expect_kcell m c 0).trans (amount_bar m c ())
theorem expect_send : (sched m).expect (sendCell c) 0 = N := (expect_kcell m c 1).trans (amount_send m c ())
theorem expect_recv : (sched m).expect (recvCell c) 0 = N := (expect_kcell m c 2).trans (amount_recv m c ())

theorem payload_bar (d : Unit) : (sched m).payload (barCell c) 0 d = barPay c := by dsimp only [sched]; rw [if_pos rfl]
theorem payload_send (d : Unit) : (sched m).payload (sendCell c) 0 d = sdPts c (sentBy m c) := by
  dsimp only [sched]; rw [if_neg send_ne_bar, if_neg send_ne_recv, if_pos rfl]
theorem payload_recv (d : Unit) : (sched m).payload (recvCell c) 0 d = rvPts c (sentBy m (peer c)) := by
  dsimp only [sched]; rw [if_neg recv_ne_bar, if_pos rfl]

/-- and what it hands out its one duty's payload. -/
theorem rest_kcell (k : Fin 3) : bigSep ((sched m).duties (kcell (c, k)) 0 \ ∅) (fun d => (sched m).payload (kcell (c, k)) 0 d)
    = (sched m).payload (kcell (c, k)) 0 () := by
  rw [Finset.sdiff_empty, duties_kcell m c k, bigSep_singleton]

end Sched

/-! ## What a core owes; the levels -/

/-- After its signal device `c` owes its partner's receive cell the rows; -/
def owedMid (c : Dev nD) : CellTallies nD τ sig Unit := tallyAt (recvCell (peer c)) () N
/-- before it, one unit on the partner's barrier as well. -/
def owed₀ (c : Dev nD) : CellTallies nD τ sig Unit := owedMid c + tallyAt (barCell (peer c)) () 1

def L (g : GSem nD τ sig) : Finset Unit := if g.1.2 = .tc then {()} else ∅
/-- Receive cells stand above barriers, barriers above everything else. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _

theorem owedMid_pos {c : Dev nD} {g : GSem nD τ sig} {u : Unit} (h : 0 < owedMid c g u) : g = recvCell (peer c) := by
  unfold owedMid at h; rw [tallyAt_apply] at h
  by_contra hn; rw [if_neg fun h' => hn h'.1] at h; exact Nat.lt_irrefl 0 h
theorem owed₀_pos {c : Dev nD} {g : GSem nD τ sig} {u : Unit} (h : 0 < owed₀ c g u) : g = recvCell (peer c) ∨ g = barCell (peer c) := by
  unfold owed₀ at h; rw [Pi.add_apply, Finsupp.add_apply] at h
  by_contra hn; rw [not_or] at hn
  have h1 : owedMid c g u = 0 := Nat.eq_zero_of_not_pos fun h' => hn.1 (owedMid_pos h')
  rw [h1, tallyAt_apply, if_neg fun h' => hn.2 h'.1] at h
  exact Nat.lt_irrefl 0 h

omit [FloatOps F] in
/-- On a cell that is neither a barrier nor a receive cell a device may wait whatever it still owes; -/
theorem mayWait_low (c : Dev nD) (q : DmaSem sig) (hq : SemLoc.dma q ≠ .dma recvS.sem) (O : CellTallies nD τ sig Unit)
    (hO : ∀ g u, 0 < O g u → g = recvCell (peer c) ∨ g = barCell (peer c)) :
    (levAts L lv : sProp 𝕄) ⊢ MayWait (c : Thread nD τ) (.dma q) () O :=
  MayOwe.of_cut (L := L) (lev := lv) 0 (fun p hp => by rw [Finset.mem_singleton.mp hp]; exact mem_L c _ _)
    (fun g u hg => by rcases hO g u hg with rfl | rfl <;> exact mem_L _ _ _)
    (fun p hp => by rw [Finset.mem_singleton.mp hp]; dsimp only [lv]; rw [if_neg (fun h => by cases h), if_neg hq])
    (fun g u hg => by
      rcases hO g u hg with rfl | rfl
      · dsimp only [lv]; rw [if_neg recv_ne_bar, if_pos rfl]; decide
      · dsimp only [lv]; rw [if_pos rfl]; decide)

omit [FloatOps F] in
/-- on its barrier it may wait when it owes the rows only. -/
theorem mayWait_bar (c : Dev nD) : (levAts L lv : sProp 𝕄) ⊢ MayWait (c : Thread nD τ) (.reg barS) () (owedMid c) :=
  MayOwe.of_cut (L := L) (lev := lv) 1 (fun p hp => by rw [Finset.mem_singleton.mp hp]; exact mem_L c _ _)
    (fun g u hg => by rw [owedMid_pos hg]; exact mem_L _ _ _)
    (fun p hp => by rw [Finset.mem_singleton.mp hp]; dsimp only [lv]; rw [if_pos rfl])
    (fun g u hg => by rw [owedMid_pos hg]; dsimp only [lv]; rw [if_neg recv_ne_bar, if_pos rfl]; decide)

omit [FloatOps F] in
/-- The copies in are waited for while the rows are owed. -/
theorem mayWait_mid (c : Dev nD) (q : DmaSem sig) (hq : SemLoc.dma q ≠ .dma recvS.sem) :
    (levAts L lv : sProp 𝕄) ⊢ MayWait (c : Thread nD τ) (.dma q) () (owedMid c) :=
  mayWait_low c q hq _ fun _ _ h => .inl (owedMid_pos h)

/-! ## The pipeline's proof data -/

/-- The cells' invariants device `c` opens, under the names `K` given at launch: its own three and its partner's barrier
    and receive cell. -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The ghost state device `c` starts from: the invariants, its positions, the rounds reached, and the tokens of the three
    duties it pays — its partner's barrier and receive duty and its own send duty. -/
def ghost (K : Dev nD × Fin 3 → ℕ) (c : Dev nD) : sProp 𝕄 :=
  iprop(invs m K c
    ∗ (atPos ER (barCell c) 0 ∅ 0 ∗ atPos ER (sendCell c) 0 ∅ 0 ∗ atPos ER (recvCell c) 0 ∅ 0)
    ∗ (reached ER (barCell (peer c)) 0 ∗ reached ER (recvCell (peer c)) 0 ∗ reached ER (sendCell c) 0 ∗ reached ER (recvCell c) 0)
    ∗ dutyTok ER (barCell (peer c)) 0 () ∗ dutyTok ER (recvCell (peer c)) 0 () ∗ dutyTok ER (sendCell c) 0 ())

/-- The arguments of device `c`, whole, as launched. -/
def argPts (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2)))

/-- The semaphores of the copies in, at zero. -/
def copySems (c : Dev nD) : sProp 𝕄 :=
  iprop(semVal ((c : Thread nD τ), .dma xS.sem) 0 ∗ semVal ((c : Thread nD τ), .dma labS.sem) 0
    ∗ semVal ((c : Thread nD τ), .dma wS0.sem) 0 ∗ semVal ((c : Thread nD τ), .dma wS1.sem) 0)

/-- What device `c`'s body takes beside its buffers. -/
def start (c : Dev nD) : sProp 𝕄 :=
  iprop((∃ K, ghost m K c) ∗ (cred (tallyAt (barCell c) () 1) ∗ cred (tallyAt (recvCell c) () N)) ∗ levAts L lv ∗ copySems c ∗ argPts m c)

/-- The five scratch buffers, each at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- Before the one point; -/
def Φ₀ (c : Dev nD) : sProp 𝕄 := iprop(start m c ∗ scratch c)
/-- after it: the scratch, the arguments unchanged, every counter back at zero. -/
def Φ₁ (c : Dev nD) : sProp 𝕄 :=
  iprop(scratch c ∗ argPts m c ∗ copySems c ∗ semVal (sendCell c) 0 ∗ semVal (recvCell c) 0 ∗ semVal (barCell c) 0)

def dats (_ : Fin 1) (c : Dev nD) : Dat τ (Elt F) Unit ℕ PairUU ℕ cfg0 c where
  A w := m ((cfg0.win w).arr.view.loc (c : Thread nD τ))
  after w _ := match w with | ⟨0, _⟩ => outOf m c
  Φ t := match t with
    | ⟨0, _⟩ => Φ₀ m c
    | ⟨_ + 1, _⟩ => Φ₁ m c
  q _ := fullShare
  owed t := match t with
    | ⟨0, _⟩ => owed₀ c
    | ⟨_ + 1, _⟩ => 0

abbrev 𝒱₀ : Variants := Variants.none

omit [FloatOps F] in
theorem owns_whole_eq (c : Dev nD) (b : Ref sig .tc) (X : b.ty.Contents (Elt F)) :
    (owns (Ix := Unit) (Name := ℕ) (U := PairUU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Exchange

end
-- ==== Proof.Buffers.lean ====
/-
The buffers of the kernel body: `W` in two halves, the two rows stored, sent and loaded.
-/
module

public import proofs.«01_k».proof.Proof.Protocol

@[expose] public section

set_option maxRecDepth 16384

noncomputable section

namespace Cert.Exchange

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ PairUU ℕ

variable (m : (ℓ : Loc nD τ sig) → Buf (Elt F) ℓ)

/-- A staging buffer, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A whole buffer, told through its memref. -/
theorem heldWhole (c : Dev nD) (b : Ref sig .tc) (f : Buf (Elt F) (((c : Dev nD) : Thread nD τ).loc b)) :
    ((((c : Thread nD τ).loc b) ↦{fullShare} f) : sProp 𝕄)
      ⊢ ((Memref.whole b).view.loc (c : Thread nD τ) ↦[Finset.univ]{fullShare} f) := BI.Entails.refl _

/-! ## The two halves of the rows of a 512-row buffer -/

abbrev topR : Rect S512x4096 := Rect.unit (s := S512x4096) ![0, 0] S256x4096.size inb_S512x4096_S256x4096_0_0
abbrev botR : Rect S512x4096 := Rect.unit (s := S512x4096) ![256, 0] S256x4096.size inb_S512x4096_S256x4096_256_0

theorem mem_top (i : S512x4096.Idx) : i ∈ topR.set ↔ (i 0).val < 256 := by
  rw [Rect.mem_set_unit]
  have h0 : (i 0).val < 512 := (i 0).isLt
  have h1 : (i 1).val < 4096 := (i 1).isLt
  constructor
  · intro h; have := h 0; simp at this; omega
  · intro h a; fin_cases a <;> simp <;> omega
theorem mem_bot (i : S512x4096.Idx) : i ∈ botR.set ↔ 256 ≤ (i 0).val := by
  rw [Rect.mem_set_unit]
  have h0 : (i 0).val < 512 := (i 0).isLt
  have h1 : (i 1).val < 4096 := (i 1).isLt
  constructor
  · intro h; have := h 0; simp at this; omega
  · intro h a; fin_cases a <;> simp <;> omega

/-- What is not in the upper half is in the lower. -/
theorem univ_sdiff_top : (Finset.univ : Finset S512x4096.Idx) \ topR.set = botR.set := by
  ext i; rw [Finset.mem_sdiff, mem_top, mem_bot]; simp

abbrev wbTop : Memref sig .tc .vmem S256x4096 .f32 := (wbM : Memref sig .tc .vmem S512x4096 .f32).slice topR (fun _ => rfl)
abbrev wbBot : Memref sig .tc .vmem S256x4096 .f32 := (wbM : Memref sig .tc .vmem S512x4096 .f32).slice botR (fun _ => rfl)
abbrev wM : Memref sig .tc .hbm S512x4096 .f32 := Memref.whole main_arg1
abbrev wTop : Memref sig .tc .hbm S256x4096 .f32 := (wM : Memref sig .tc .hbm S512x4096 .f32).slice topR (fun _ => rfl)
abbrev wBot : Memref sig .tc .hbm S256x4096 .f32 := (wM : Memref sig .tc .hbm S512x4096 .f32).slice botR (fun _ => rfl)

theorem wbTop_set : wbTop.view.set = topR.set := View.set_slice_whole _ _
theorem wbBot_set : wbBot.view.set = botR.set := View.set_slice_whole _ _
theorem wTop_set : wTop.view.set = topR.set := View.set_slice_whole _ _
theorem wBot_set : wBot.view.set = botR.set := View.set_slice_whole _ _

/-- The VMEM copy of `W` held whole is its two halves held, -/
theorem wb_halves (c : Dev nD) (f : Vec F S512x4096 .f32) :
    (((wbM : Memref sig .tc .vmem S512x4096 .f32).view.loc (c : Thread nD τ) ↦[Finset.univ]{fullShare} f) : sProp 𝕄)
      ⊣⊢ iprop((wbTop.view.loc (c : Thread nD τ) ↦[wbTop.view.set]{fullShare} f) ∗ (wbBot.view.loc (c : Thread nD τ) ↦[wbBot.view.set]{fullShare} f)) := by
  rw [wbTop_set, wbBot_set, ← univ_sdiff_top]
  exact pointsTo_split_subset (Finset.subset_univ _)
/-- and so is `W` itself. -/
theorem w_halves (c : Dev nD) (f : Vec F S512x4096 .f32) :
    (((wM : Memref sig .tc .hbm S512x4096 .f32).view.loc (c : Thread nD τ) ↦[Finset.univ]{fullShare} f) : sProp 𝕄)
      ⊣⊢ iprop((wTop.view.loc (c : Thread nD τ) ↦[wTop.view.set]{fullShare} f) ∗ (wBot.view.loc (c : Thread nD τ) ↦[wBot.view.set]{fullShare} f)) := by
  rw [wTop_set, wBot_set, ← univ_sdiff_top]
  exact pointsTo_split_subset (Finset.subset_univ _)

/-- The two copies landed make the VMEM copy of `W` whole. -/
theorem wb_landed (c : Dev nD) (W f : Vec F S512x4096 .f32) :
    iprop((wbTop.view.loc (c : Thread nD τ) ↦[wbTop.view.set]{fullShare} wbTop.view.writes (Elt F) f [⟨Rect.whole S256x4096, wTop.view.read (Elt F) W⟩])
        ∗ (wbBot.view.loc (c : Thread nD τ) ↦[wbBot.view.set]{fullShare} wbBot.view.writes (Elt F) f [⟨Rect.whole S256x4096, wBot.view.read (Elt F) W⟩]))
      ⊢ ((wbM : Memref sig .tc .vmem S512x4096 .f32).view.loc (c : Thread nD τ) ↦[Finset.univ]{fullShare} W : sProp 𝕄) := by
  refine (BI.sep_mono (Entails.of_eq (pointsTo_congr fun i hi => ?_)) (Entails.of_eq (pointsTo_congr fun i hi => ?_))).trans (wb_halves c W).2
  · obtain ⟨x, -, rfl⟩ := Finset.mem_map.mp hi
    have h := View.read_writes_cons_emb (Val := Elt F) wbTop.view f (Rect.whole S256x4096) (wTop.view.read (Elt F) W) [] x
    rw [Rect.emb_whole_apply] at h
    rw [View.read_apply, View.read_apply, cast_eq, cast_eq] at h
    exact h
  · obtain ⟨x, -, rfl⟩ := Finset.mem_map.mp hi
    have h := View.read_writes_cons_emb (Val := Elt F) wbBot.view f (Rect.whole S256x4096) (wBot.view.read (Elt F) W) [] x
    rw [Rect.emb_whole_apply] at h
    rw [View.read_apply, View.read_apply, cast_eq, cast_eq] at h
    exact h

/-! ## Reads and writes of the small buffers -/

omit [FloatOps F] in
theorem hz1 : (![0] : Fin 1 → Nat) = fun _ => 0 := funext fun a => by fin_cases a; rfl
omit [FloatOps F] in
theorem hz2 : (![0, 0] : Fin 2 → Nat) = fun _ => 0 := funext fun a => by fin_cases a <;> rfl

abbrev row0 : Rect S2x256 := Rect.unit (s := S2x256) ![0, 0] S1x256.size inb_S2x256_S1x256_0_0
abbrev row1 : Rect S2x256 := Rect.unit (s := S2x256) ![1, 0] S1x256.size inb_S2x256_S1x256_1_0

omit [FloatOps F] in
/-- The upper of two rows, loaded; -/
theorem load_row0 (a b : FVec F S1x256 .f32) : (rvM : Memref sig .tc .vmem S2x256 .f32).view.readAt (Elt F) row0.toLoadRect (twoRows a b) = a := by
  funext x
  have h0 : (x 0).val = 0 := by have := (x 0).isLt; simp at this; omega
  have hx : inRow (row0.emb x) = x := by
    funext d; fin_cases d
    · exact Fin.ext h0.symm
    · apply Fin.ext; show 0 + 1 * (x 1).val = (x 1).val; omega
  show twoRows a b (row0.emb x) = a x
  unfold twoRows
  rw [if_pos (by show 0 + 1 * (x 0).val = 0; omega), hx]
omit [FloatOps F] in
/-- the lower. -/
theorem load_row1 (a b : FVec F S1x256 .f32) : (rvM : Memref sig .tc .vmem S2x256 .f32).view.readAt (Elt F) row1.toLoadRect (twoRows a b) = b := by
  funext x
  have h0 : (x 0).val = 0 := by have := (x 0).isLt; simp at this; omega
  have hx : inRow (row1.emb x) = x := by
    funext d; fin_cases d
    · exact Fin.ext h0.symm
    · apply Fin.ext; show 0 + 1 * (x 1).val = (x 1).val; omega
  show twoRows a b (row1.emb x) = b x
  unfold twoRows
  rw [if_neg (by show ¬ 1 + 1 * (x 0).val = 0; omega), hx]

omit [FloatOps F] in
/-- Two rows stored, one after the other, are the two rows. -/
theorem stored_rows (f : Vec F S2x256 .f32) (a b : FVec F S1x256 .f32) :
    (sdM : Memref sig .tc .vmem S2x256 .f32).view.writes (Elt F) f [⟨row1, b⟩, ⟨row0, a⟩] = twoRows a b := by
  funext i
  have hi : (i 0).val < 2 := (i 0).isLt
  suffices h : (sdM : Memref sig .tc .vmem S2x256 .f32).view.read (Elt F) ((sdM : Memref sig .tc .vmem S2x256 .f32).view.writes (Elt F) f [⟨row1, b⟩, ⟨row0, a⟩]) i = twoRows a b i by
    rw [View.read_apply, cast_eq] at h; exact h
  unfold twoRows
  by_cases h : (i 0).val = 0
  · rw [if_pos h, View.read_writes_cons_miss_of_axis (sdM : Memref sig .tc .vmem S2x256 .f32).view f ⟨row1, b⟩ [⟨row0, a⟩] i 0 1 1 rfl rfl rfl (by left; omega)]
    exact View.read_writes_cons_hit_of_coords (sdM : Memref sig .tc .vmem S2x256 .f32).view f row0 a [] (inRow i) i fun d => by
      fin_cases d
      · show (i 0).val = 0 + 1 * 0; omega
      · show (i 1).val = 0 + 1 * (i 1).val; omega
  · rw [if_neg h]
    exact View.read_writes_cons_hit_of_coords (sdM : Memref sig .tc .vmem S2x256 .f32).view f row1 b [⟨row0, a⟩] (inRow i) i fun d => by
      fin_cases d
      · show (i 0).val = 1 + 1 * 0; omega
      · show (i 1).val = 0 + 1 * (i 1).val; omega

/-- The send buffer after its two stores is what device `c` sends, whatever names the run gave the stored values. -/
theorem sd_written (c : Dev nD) (f : Vec F S2x256 .f32) (x : Vec F S256x512 .f32) (l : Vec F S256 .i32) (W : Vec F S512x4096 .f32)
    (a b : FVec F S1x256 .f32) (ha : a = expRow x W) (hb : b = pickRow (halfWord c) x W l) :
    ((sdM : Memref sig .tc .vmem S2x256 .f32).view.loc (c : Thread nD τ) ↦[Finset.univ]{fullShare}
        (sdM : Memref sig .tc .vmem S2x256 .f32).view.writes (Elt F) f [⟨row1, b⟩, ⟨row0, a⟩] : sProp 𝕄)
      ⊢ sdPts c (twoRows (expRow x W) (pickRow (halfWord c) x W l)) := by
  subst ha hb
  rw [stored_rows, sdPts_eq]

omit [FloatOps F] in
theorem landed_eq (f g : Vec F S2x256 .f32) :
    (rvM : Memref sig .tc .vmem S2x256 .f32).view.write (Elt F) f ((sdM : Memref sig .tc .vmem S2x256 .f32).view.read (Elt F) g) Finset.univ = g := by
  show (View.whole cc0_scratch4).write (Elt F) f ((View.whole cc0_scratch3).read (Elt F) g) Finset.univ = g
  rw [View.read_whole]
  exact View.write_whole_univ _ _ _

omit [FloatOps F] in
/-- What lands in the partner's receive buffer is what was sent. -/
theorem landed_rows (n : Dev nD) (f g : Vec F S2x256 .f32) :
    ((rvM : Memref sig .tc .vmem S2x256 .f32).view.loc (n : Thread nD τ) ↦[(rvM : Memref sig .tc .vmem S2x256 .f32).view.set]{fullShare}
        ((rvM : Memref sig .tc .vmem S2x256 .f32).view.write (Elt F) f ((sdM : Memref sig .tc .vmem S2x256 .f32).view.read (Elt F) g) Finset.univ) : sProp 𝕄)
      ⊢ rvPts n g := by
  rw [landed_eq]
  exact BI.Entails.refl _

omit [FloatOps F] in
/-- The result buffer after its one store is the stored value, whatever names the run gave it. -/
theorem out_written (c : Dev nD) (f w' w : Vec F S256 .f32) (h : w' = w) :
    ((outM : Memref sig .tc .vmem S256 .f32).view.loc (c : Thread nD τ) ↦[Finset.univ]{fullShare}
        (outM : Memref sig .tc .vmem S256 .f32).view.writes (Elt F) f [⟨Rect.unit (s := S256) ![0] S256.size inb_S256_S256_0, w'⟩] : sProp 𝕄)
      ⊢ (((c : Thread nD τ).loc cc0_stg0_0) ↦{fullShare} w) := by
  subst h
  rw [View.writes_singleton]
  exact Entails.of_eq (congrArg (fun g => (((c : Thread nD τ).loc cc0_stg0_0) ↦{fullShare} g : sProp 𝕄)) (Memref.write_access_unit_zero_univ (Elt F) cc0_stg0_0 hz1 _ f w'))

/-- The transfer of the two rows to `n`, the partner. -/
theorem wp_send_rows (K : Dev nD × Fin 3 → ℕ) (c n : Dev nD) (hn : n = peer c)
    {hsc : (rvM : Memref sig (Dev.tc n : Thread nD τ).2.kind .vmem S2x256 .f32).view.ref.isScScratch = false}
    {hsrc : (sdM : Memref sig .tc .vmem S2x256 .f32).view.WordExact} {hdst : (rvM : Memref sig .tc .vmem S2x256 .f32).view.WordExact}
    {hsem : DmaTarget.Typed .vmem (.dma recvS.sem) (.remote (Dev.tc n : Thread nD τ) (rvM : Memref sig .tc .vmem S2x256 .f32) (.dma sendS.sem) hsc)}
    {α : Type} {Q : α → sProp 𝕄} {k : PUnit → Prog (TpuEff nD τ sig (Elt F) Λ₀ .tc) α}
    (fn : Vec F S2x256 .f32) (W : Waits sig Unit) :
    iprop(cellInv ER (sched m) (K (c, 1)) (sendCell c) ∗ cellInv ER (sched m) (K (peer c, 2)) (recvCell (peer c))
        ∗ sdPts c (sentBy m c) ∗ rvPts (peer c) fn
        ∗ owes (c : Thread nD τ) (owedMid c) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sdM (.remote (Dev.tc n : Thread nD τ) rvM (.dma sendS.sem) hsc) (.dma recvS.sem) hsrc hdst hsem) k) Q) := by
  subst hn
  have hd₁ : () ∈ (sched (F := F) m).duties (sendCell c) 0 := mem_duties m c 1
  have hd₂ : () ∈ (sched (F := F) m).duties (recvCell (peer c)) 0 := mem_duties m (peer c) 2
  have hO : owedMid c = 0 + tallyAt (recvCell (peer c)) () N := (zero_add _).symm
  have hp₁ : sdPts c (sentBy m c) ⊢ (sched m).payload (sendCell c) 0 () := Entails.of_eq (payload_send m c ()).symm
  have hp₂ : _ ⊢ (sched m).payload (recvCell (peer c)) 0 () :=
    (landed_rows (peer c) fn (sentBy m c)).trans (Entails.of_eq (by rw [payload_recv, peer_peer]))
  have hN : (rvM : Memref sig .tc .vmem S2x256 .f32).view.amount (SemLoc.dma recvS.sem) = N := rfl
  have hr : τ.routes (c : Thread nD τ) (peer c : Thread nD τ) = true := by routes
  exact Rounds.wp_send_pointsTo 𝒱₀ ER (sched m) (c : Thread nD τ) none (src := sdM) (dst := rvM) (c' := (peer c : Thread nD τ)) (sS := .dma sendS.sem) (sem := .dma recvS.sem) (q := fullShare) (κ₁ := K (c, 1)) (κ₂ := K (peer c, 2))
    (r₁ := 0) (r₂ := 0) (d₁ := ()) (d₂ := ()) (fs := sentBy m c) (fd := fn) hd₁ hd₂
    () () N hN (amount_send m c ()) (amount_recv m (peer c) ()) 0 hO (W := W) hp₁ hp₂ hr
end Cert.Exchange

end
-- ==== Proof.Body.lean ====
/-
The kernel body on one device, executed.
-/
module

public import proofs.«01_k».proof.Proof.Buffers

@[expose] public section

set_option maxRecDepth 16384

noncomputable section

namespace Cert.Exchange

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ PairUU ℕ

variable (m : (ℓ : Loc nD τ sig) → Buf (Elt F) ℓ)

variable (K : Dev nD × Fin 3 → ℕ)

def bodyPre (W₀ : Waits sig Unit) (c : Dev nD) : sProp 𝕄 :=
  iprop((ghost m K c ∗ (cred (tallyAt (barCell c) () 1) ∗ cred (tallyAt (recvCell c) () N)) ∗ levAts L lv ∗ copySems c ∗ argPts m c)
    ∗ scratch c
    ∗ owes (c : Thread nD τ) (owed₀ c) W₀
    ∗ ∃ f : Buf (Elt F) (((c : Dev nD) : Thread nD τ).loc cc0_stg0_0), (((c : Thread nD τ).loc cc0_stg0_0) ↦{fullShare} f))

def bodyPost (c : Dev nD) : sProp 𝕄 :=
  iprop(Φ₁ m c ∗ (∃ W, owes (c : Thread nD τ) 0 W) ∗ (((c : Thread nD τ).loc cc0_stg0_0) ↦{fullShare} outOf m c))

set_option maxHeartbeats 4000000 in
theorem sound_body (c : Dev nD) (W₀ : Waits sig Unit) (Kt : PUnit → sProp 𝕄) :
    iprop(bodyPre m K W₀ c ∗ (bodyPost m c -∗ Kt ⟨⟩))
      ⊢ wp frame (wpE (defs₀ (F := F)) 𝒱₀ c none) Set.univ
          (cc0_body (Memref.whole main_arg0) (Memref.isWhole_whole _) (Memref.whole main_arg1) (Memref.isWhole_whole _) (Memref.whole main_arg2) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6 cc0_scratch7 cc0_scratch8 cc0_scratch9) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs scratch copySems argPts
  iintro ⟨⟨⟨⟨⟨#HIb, #HIs, #HIr, #HIbP, #HIrP⟩, ⟨HatB, HatS, HatR⟩, ⟨#HrBP, #HrRP, #HrS, #HrR⟩, HtB, HtR, HtS⟩, ⟨HcB, HcR⟩, #Hlev,
    ⟨Hx0, Hl0, Hw0, Hw1⟩, Ha0, Ha1, Ha2⟩, ⟨⟨%f0, Hs0⟩, ⟨%f1, Hs1⟩, ⟨%f2, Hs2⟩, ⟨%f3, Hs3⟩, ⟨%f4, Hs4⟩⟩, HO, ⟨%fo, Hout⟩⟩, Hk⟩
  simp only [signal_target c, send_target c]
  unfold owed₀
  iapply (Rounds.wp_signal 𝒱₀ ER (sched m) (c : Thread nD τ) none (dst := (peer c : Thread nD τ)) (κ := K (peer c, 0))
      (d := ()) (mem_duties m (peer c) 0) ((amount_bar m (peer c) ()).trans (by decide)) () (owedMid c) rfl)
    $$ [HO HtB Hs4]
  · isplitr; · iexact HIbP
    isplitl [HO]; · iexact HO
    isplitl [HtB]; · iexact HtB
    isplitl [Hs4]
    · rw [payload_bar]; unfold barPay; rw [peer_peer]
      isplitl [Hs4]; · iexists f4; rw [rvPts_eq]; iexact Hs4
      iexact HrR
    · iexact HrBP
  iintro HO
  have h0 := mayWait_mid (F := F) c xS.sem (by decide)
  have h1 := mayWait_mid (F := F) c labS.sem (by decide)
  have h2 := mayWait_mid (F := F) c wS0.sem (by decide)
  have h3 := mayWait_mid (F := F) c wS1.sem (by decide)
  ihave Ha0 := (heldWhole c main_arg0 _) $$ Ha0
  ihave Ha1 := (heldWhole c main_arg1 _) $$ Ha1
  ihave Ha2 := (heldWhole c main_arg2 _) $$ Ha2
  ihave Hs0 := (heldWhole c cc0_scratch0 _) $$ Hs0
  ihave Hs1 := (heldWhole c cc0_scratch1 _) $$ Hs1
  ihave Hs2 := (heldWhole c cc0_scratch2 _) $$ Hs2
  ihave Hs3 := (heldWhole c cc0_scratch3 _) $$ Hs3
  ihave Hout := (heldWhole c cc0_stg0_0 _) $$ Hout
  ihave Hs2 := (wb_halves c _).1 $$ Hs2
  icases Hs2 with ⟨Hst, Hsb⟩
  ihave Ha1 := (w_halves c _).1 $$ Ha1
  icases Ha1 with ⟨Hat, Hab⟩
  sl_exec
  ihave Hs2 := (wb_landed c (wOf m c) f2) $$ [Hst Hsb]
  · isplitl [Hst]; · iexact Hst
    iexact Hsb
  ihave Ha1 := (w_halves c _).2 $$ [Hat Hab]
  · isplitl [Hat]; · iexact Hat
    iexact Hab
  sl_exec
  have hx : sound_body.sl.x m c f0 = xOf m c := by
    unfold sound_body.sl.x sound_body.sl.dma0_2
    exact (Memref.readAt_unit_zero (Elt F) cc0_scratch0 hz2 _ _).trans (View.write_whole_univ _ _ _)
  have hl : sound_body.sl.x_1 m c f1 = labOf m c := by
    unfold sound_body.sl.x_1 sound_body.sl.dma0_3
    exact (Memref.readAt_unit_zero (Elt F) cc0_scratch1 hz1 _ _).trans (View.write_whole_univ _ _ _)
  ihave Hs3 := (sd_written c f3 (xOf m c) (labOf m c) (wOf m c) _ _ (by rw [hx]; unfold k0_pay21; exact shapeCast_self _ _)
    (by rw [hx, hl]; unfold k0_pay22; exact shapeCast_self _ _)) $$ Hs3
  -- the wait for the partner's signal: its receive buffer comes with it
  iapply (Rounds.wp_wait_rest_token 𝒱₀ ER (sched m) (c : Thread nD τ) none (κ := K (c, 0))
      (wpE_semWait_eq 𝒱₀ (c : Thread nD τ) none Set.univ) (Set.mem_univ _) () (O := owedMid c) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq ((rest_kcell m c 0).trans (payload_bar m c ()))) $$ Hpay
  unfold barPay
  icases Hp with ⟨⟨%fn, HrvP⟩, #HrRP'⟩
  -- the transfer
  iapply (wp_send_rows m K c _ (send_target c) fn _) $$ [Hs3 HrvP HO HtS HtR]
  · isplitr; · iexact HIs
    isplitr; · iexact HIrP
    isplitl [Hs3]; · iexact Hs3
    isplitl [HrvP]; · iexact HrvP
    isplitl [HO]; · iexact HO
    isplitl [HtS]; · iexact HtS
    isplitr; · iexact HrS
    isplitl [HtR]; · iexact HtR
    iexact HrRP
  iintro ⟨HcS, HO⟩
  -- the wait for its leaving: the send buffer back
  iapply (Rounds.wp_wait_rest_token 𝒱₀ ER (sched m) (c : Thread nD τ) none (κ := K (c, 1))
      (wpE_waitDma2_eq 𝒱₀ (c : Thread nD τ) none Set.univ) (Set.mem_univ _) () (O := 0) (R := 0) (m := 0) (T := ∅)
      (by rw [Nat.zero_add, expect_send])) $$ [HcS HO HatS]
  · isplitr; · iexact HIs
    isplitl [HcS]; · iexact HcS
    isplitl [HO]; · iexact HO
    isplitr; · rw [MayWait_zero]; iempintro
    iexact HatS
  iintro ⟨HO, HatS, -, Hpay⟩
  ihave Hs3 := (Entails.of_eq (((rest_kcell m c 1).trans (payload_send m c ())).trans (sdPts_eq c _))) $$ Hpay
  -- the wait for the partner's rows
  iapply (Rounds.wp_wait_rest_token 𝒱₀ ER (sched m) (c : Thread nD τ) none (κ := K (c, 2))
      (wpE_waitDma2_eq 𝒱₀ (c : Thread nD τ) none Set.univ) (Set.mem_univ _) () (O := 0) (R := 0) (m := 0) (T := ∅)
      (by rw [Nat.zero_add, expect_recv])) $$ [HcR HO HatR]
  · isplitr; · iexact HIr
    isplitl [HcR]; · iexact HcR
    isplitl [HO]; · iexact HO
    isplitr; · rw [MayWait_zero]; iempintro
    iexact HatR
  iintro ⟨HO, HatR, -, Hpay⟩
  ihave Hs4 := (Entails.of_eq (((rest_kcell m c 2).trans (payload_recv m c ())).trans (rvPts_eq c _))) $$ Hpay
  -- the three cells close: their counters at zero are the device's again
  imod (Rounds.cell_close ER (sched m) (Set.mem_univ (K (c, 1))) (fun h => h) (R := 0 + 1) (duties_later m (sendCell c))) $$ [HatS] with HzS
  · isplitr; · iexact HIs
    iexact HatS
  imod (Rounds.cell_close ER (sched m) (Set.mem_univ (K (c, 2))) (fun h => h) (R := 0 + 1) (duties_later m (recvCell c))) $$ [HatR] with HzR
  · isplitr; · iexact HIr
    iexact HatR
  imod (Rounds.cell_close ER (sched m) (Set.mem_univ (K (c, 0))) (fun h => h) (R := 0 + 1) (duties_later m (barCell c))) $$ [HatB] with HzB
  · isplitr; · iexact HIb
    iexact HatB
  ihave Hs4 := (heldWhole c cc0_scratch4 _) $$ Hs4
  sl_exec
  ihave Hout := (out_written c fo _ (outOf m c) (by rw [hx, hl]; unfold sentBy; rw [load_row0, load_row1]; rfl)) $$ Hout
  rw [wp_ret]; imodintro
  iapply Hk
  unfold bodyPost Φ₁ scratch argPts copySems
  isplitl [Hs0 Hs1 Hs2 Hs3 Hs4 Ha0 Ha1 Ha2 Hx0 Hl0 Hw0 Hw1 HzS HzR HzB]
  · isplitl [Hs0 Hs1 Hs2 Hs3 Hs4]
    · isplitl [Hs0]; · iexists _; iexact Hs0
      isplitl [Hs1]; · iexists _; iexact Hs1
      isplitl [Hs2]; · iexists _; iexact Hs2
      isplitl [Hs3]; · iexists _; iexact Hs3
      iexists _; iexact Hs4
    isplitl [Ha0 Ha1 Ha2]
    · isplitl [Ha0]; · iexact Ha0
      isplitl [Ha1]; · iexact Ha1
      iexact Ha2
    isplitl [Hx0 Hl0 Hw0 Hw1]
    · isplitl [Hx0]; · iexact Hx0
      isplitl [Hl0]; · iexact Hl0
      isplitl [Hw0]; · iexact Hw0
      iexact Hw1
    isplitl [HzS]; · iexact HzS
    isplitl [HzR]; · iexact HzR
    iexact HzB
  isplitl [HO]; · iexists _; iexact HO
  iexact Hout

/-- The library's body obligation on device `c`. -/
theorem body_obligation (c : Dev nD) : BodyObligation (dats m 0 c) (defs₀ (F := F)) 𝒱₀ () Set.univ := fun t => by
  rw [fin_N0 t]
  rw [bigSep_W0, bigSep_W0]
  simp only [owns_whole_eq]
  show iprop(Φ₀ m c ∗ (dats m 0 c).owesAt () t0_0.castSucc ∗ (∃ d, stg c cc0_stg0_0 ((dats m 0 c).before 0 t0_0 d)))
    ⊢ wp frame (wpE (defs₀ (F := F)) 𝒱₀ c none) Set.univ
      (cc0_body (Memref.whole main_arg0) (Memref.isWhole_whole _) (Memref.whole main_arg1) (Memref.isWhole_whole _) (Memref.whole main_arg2) (Memref.isWhole_whole _)
        (Memref.whole cc0_stg0_0) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8 cc0_scratch9)
      (fun _ => iprop(Φ₁ m c ∗ (dats m 0 c).owesAt () t0_0.succ ∗ stg c cc0_stg0_0 (outOf m c)))
  unfold Φ₀ start Dat.owesAt Pipeline.owesWithin
  iintro ⟨⟨⟨⟨%K, Hg⟩, Hcr, Hlev, Hcs, Ha⟩, Hscr⟩, ⟨%W, %hW, HO⟩, ⟨%d, %f, %hf, Hout⟩⟩
  iapply (sound_body m K c W _)
  unfold bodyPre
  isplitr []
  · isplitl [Hg Hcr Hlev Hcs Ha]
    · isplitl [Hg]; · iexact Hg
      isplitl [Hcr]; · iexact Hcr
      isplitl [Hlev]; · iexact Hlev
      isplitl [Hcs]; · iexact Hcs
      iexact Ha
    isplitl [Hscr]; · iexact Hscr
    isplitl [HO]; · iexact HO
    iexists f; iexact Hout
  · unfold bodyPost
    iintro ⟨H1, ⟨%W', HO⟩, Hout⟩
    isplitl [H1]; · iexact H1
    isplitl [HO]
    · iexists W'
      isplitr; · ipureintro; exact fun _ _ => Or.inl trivial
      iexact HO
    iexists _; isplitr; · (ipureintro; rfl)
    iexact Hout

end Cert.Exchange

end
-- ==== Proof.Run.lean ====
/-
The launch: the pairs' cells dealt to the devices, and the run of @main on the mesh.
-/
module

public import proofs.«01_k».proof.Proof.Body
public import Idealize.ShloMosaic.Lib.Pipeline.ValueKit

@[expose] public section

set_option maxRecDepth 16384

noncomputable section

namespace Cert.Exchange

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ PairUU ℕ

variable (m : (ℓ : Loc nD τ sig) → Buf (Elt F) ℓ) (ρ : Dev nD → PrngReg)

/-! ## The cells and the tokens of all devices -/

theorem ownSemFacts : Pipeline.OwnSemFacts cfg0.spec osem := by decide

theorem share_eq (c : Dev nD) (w : Fin cfg0.W) : (dats m 0 c).share w = fullShare := by unfold Dat.share; split <;> rfl

theorem csem_inj : Function.Injective csem := by
  intro k k' h
  fin_cases k <;> fin_cases k' <;> first | rfl | exact absurd h (by decide)
/-- A device and one of the three semaphores name a cell in one way. -/
theorem kcell_inj : Function.Injective (kcell : Dev nD × Fin 3 → GSem nD τ sig) := by
  rintro ⟨c, k⟩ ⟨c', k'⟩ h
  obtain rfl : c = c' := congrArg (fun g : GSem nD τ sig => g.1.1) h
  obtain rfl : k = k' := csem_inj (congrArg Prod.snd h)
  rfl
def pairCells : Finset (GSem nD τ sig) := Finset.univ.map ⟨kcell, kcell_inj⟩

/-- The one duty of a cell, as a token's key. -/
abbrev tokOf (ck : Dev nD × Fin 3) : GSem nD τ sig × ℕ × Unit := (kcell ck, 0, ())
theorem tokOf_inj : Function.Injective (tokOf : Dev nD × Fin 3 → GSem nD τ sig × ℕ × Unit) :=
  fun _ _ h => kcell_inj (congrArg Prod.fst h)
def pairToks : Finset (GSem nD τ sig × ℕ × Unit) := Finset.univ.map ⟨tokOf, tokOf_inj⟩

/-- The launch element: the pipeline's cells and tokens, the pairs', and no copy in flight. -/
def u₀ : PairUU :=
  (initOf (Pipeline.cells cfgs cellOf_inj) (Pipeline.launchToks cfgs cellOf_inj), (initOf pairCells pairToks, 1))

omit [FloatOps F] in
/-- The launch element's first two components, apart. -/
theorem u₀_split (a : UR sig nD τ) (b : PairUB) : (ownU ((a, (b, 1)) : PairUU) : sProp 𝕄) ⊢ iprop(BI.own (EP a) ∗ BI.own (ER b)) :=
  BI.own_op_elim ((uEmb (nD := nD) (sig := sig) (Ix := Unit) (Val := Elt F) (Name := ℕ) (U := PairUU) (Lvl := ℕ)).toEmb.op_of_mem
    (Prod.mk_mem_op (URA.mem_op_one a) (URA.mem_one_op (b, (1 : Counters)))))

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

/-- The duty tokens of device `c`'s own three cells. -/
def toks (c : Dev nD) : sProp 𝕄 :=
  iprop(dutyTok ER (barCell c) 0 () ∗ dutyTok ER (sendCell c) 0 () ∗ dutyTok ER (recvCell c) 0 ())

/-- The position at each of device `c`'s cells, and that it stands at round 0. -/
def posAt (c : Dev nD) : sProp 𝕄 :=
  bigSep Finset.univ fun k : Fin 3 => iprop(atPos ER (kcell (c, k)) 0 ∅ 0 ∗ reached ER (kcell (c, k)) 0)

/-- What device `c` is dealt first: its cells' states, positions and tokens; -/
def dealt (c : Dev nD) : sProp 𝕄 :=
  iprop((bigSep Finset.univ fun k : Fin 3 => roundState ER (sched m) (kcell (c, k)) 0) ∗ posAt c ∗ toks c)
/-- after the exchange of tokens, all it starts from. -/
def ready (c : Dev nD) : sProp 𝕄 := iprop((∃ K, ghost m K c) ∗ copySems c)

omit [FloatOps F] in
/-- Whatever is said of every cell is said device by device. -/
theorem cells_by_device (Φ : GSem nD τ sig → sProp 𝕄) :
    bigSep pairCells Φ = bigSep Finset.univ fun c : Dev nD => bigSep Finset.univ fun k : Fin 3 => Φ (kcell (c, k)) := by
  unfold pairCells; rw [bigSep_map, bigSep_univ_prod]; rfl

theorem deal : BI.own (ER (initOf pairCells pairToks)) ⊢ (|==> bigSep Finset.univ (dealt m) : sProp 𝕄) := by
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [three]; rfl
  iintro HX
  imod (Rounds.fund ER (sched m) pairCells pairToks) $$ HX with ⟨Hst, Hr, Hat, Htok⟩
  imodintro
  ihave Hst := (Entails.of_eq (cells_by_device fun g => roundState ER (sched m) g 0)) $$ Hst
  ihave Hat := (Entails.of_eq (cells_by_device fun g => atPos ER g 0 ∅ 0)) $$ Hat
  ihave Hr := (Entails.of_eq (cells_by_device fun g => reached ER g 0)) $$ Hr
  ihave Htok := (Entails.of_eq hT) $$ Htok
  unfold dealt posAt; simp only [bigSep_sep']
  isplitl [Hst]; · iexact Hst
  isplitl [Hat Hr]
  · isplitl [Hat]; · iexact Hat
    iexact Hr
  iexact Htok

/-! ## The semaphores at launch -/

omit [FloatOps F] in
/-- The scoped semaphores of the kernel one by one; -/
theorem ownSems0_eq (c : Dev nD) : (Pipeline.ownSems0 (Ix := Unit) (Name := ℕ) (U := PairUU) (Lvl := ℕ) (Val := Elt F) (τ := τ) osem c : sProp 𝕄)
    = iprop(semVal ((c : Thread nD τ), .dma xS.sem) 0 ∗ semVal ((c : Thread nD τ), .dma labS.sem) 0 ∗ semVal ((c : Thread nD τ), .dma wS0.sem) 0
        ∗ semVal ((c : Thread nD τ), .dma wS1.sem) 0 ∗ semVal (sendCell c) 0 ∗ semVal (recvCell c) 0) := by
  rw [Pipeline.ownSems0_eq_of_list c osem [0, 1, 2, 3, 4, 5] (by decide) (by decide)]; rfl
omit [FloatOps F] in
/-- the barrier semaphore is the one unscoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The invariants of device `c`'s cells are allocated from its semaphores and its cells' states; the copies' semaphores
    stay with it. -/
theorem alloc_device (c : Dev nD) :
    iprop(Pipeline.ownSems0 (Ix := Unit) (Name := ℕ) (U := PairUU) (Lvl := ℕ) (Val := Elt F) (τ := τ) osem c ∗ unscopedSems0 c ∗ dealt m c)
      ⊢ |={Set.univ}=> iprop((bigSep Finset.univ fun k => iprop(∃ κ : ℕ, cellInv ER (sched m) κ (kcell (c, k))))
          ∗ posAt c ∗ toks c ∗ copySems c) := by
  unfold dealt
  rw [ownSems0_eq, unscopedSems0_eq]
  iintro ⟨⟨H0, H1, H2, H3, HS, HR⟩, HB, Hst, Hat, Htok⟩
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [HS HR HB Hst] with Hinv
  · isplitl [HS HR HB]
    · rw [three]
      isplitl [HB]; · iexact HB
      isplitl [HS]; · iexact HS
      iexact HR
    iexact Hst
  imodintro
  isplitl [Hinv]; · iexact Hinv
  isplitl [Hat]; · iexact Hat
  isplitl [Htok]; · iexact Htok
  unfold copySems
  isplitl [H0]; · iexact H0
  isplitl [H1]; · iexact H1
  isplitl [H2]; · iexact H2
  iexact H3

/-! ## The tokens exchanged within the pairs -/

/-- What every device knows: each cell's invariant under its name, and that it stands at round 0. -/
def known (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance known_persistent (K : Dev nD × Fin 3 → ℕ) : BI.Persistent (known m K) := by unfold known; infer_instance

theorem known_inv (K : Dev nD × Fin 3 → ℕ) (ck : Dev nD × Fin 3) : known m K ⊢ cellInv ER (sched m) (K ck) (kcell ck) := by
  unfold known
  iintro ⟨H, -⟩
  iapply (show (bigSep Finset.univ fun ck : Dev nD × Fin 3 => (cellInv ER (sched m) (K ck) (kcell ck) : sProp 𝕄)) ⊢ cellInv ER (sched m) (K ck) (kcell ck) from
    bigSep_elim (Finset.mem_univ ck))
  iexact H
theorem known_reached (K : Dev nD × Fin 3 → ℕ) (ck : Dev nD × Fin 3) : known m K ⊢ reached ER (kcell ck) 0 := by
  unfold known
  iintro ⟨-, H⟩
  iapply (show (bigSep Finset.univ fun ck : Dev nD × Fin 3 => (reached ER (kcell ck) 0 : sProp 𝕄)) ⊢ reached ER (kcell ck) 0 from
    bigSep_elim (Finset.mem_univ ck))
  iexact H

/-- What is device `c`'s alone: its positions, the tokens of the duties it pays, and its copies' semaphores. -/
def alone (c : Dev nD) : sProp 𝕄 :=
  iprop((bigSep Finset.univ fun k : Fin 3 => atPos ER (kcell (c, k)) 0 ∅ 0)
    ∗ (dutyTok ER (barCell (peer c)) 0 () ∗ dutyTok ER (recvCell (peer c)) 0 () ∗ dutyTok ER (sendCell c) 0 ()) ∗ copySems c)

theorem ready_intro (K : Dev nD × Fin 3 → ℕ) (c : Dev nD) : iprop(known m K ∗ alone c) ⊢ ready m c := by
  unfold alone ready ghost invs
  rw [three]
  iintro ⟨#HK, Hat, Htok, Hcs⟩
  isplitr [Hcs]
  · iexists K
    isplitr
    · isplitr; · iapply (known_inv m K (c, 0)); iexact HK
      isplitr; · iapply (known_inv m K (c, 1)); iexact HK
      isplitr; · iapply (known_inv m K (c, 2)); iexact HK
      isplitr; · iapply (known_inv m K (peer c, 0)); iexact HK
      iapply (known_inv m K (peer c, 2)); iexact HK
    isplitl [Hat]; · iexact Hat
    isplitr
    · isplitr; · iapply (known_reached m K (peer c, 0)); iexact HK
      isplitr; · iapply (known_reached m K (peer c, 2)); iexact HK
      isplitr; · iapply (known_reached m K (c, 1)); iexact HK
      iapply (known_reached m K (c, 2)); iexact HK
    iexact Htok
  · iexact Hcs

omit [FloatOps F] in
/-- Each device hands its barrier's and its receive cell's token to its partner. -/
theorem toks_swapped : (bigSep Finset.univ fun c : Dev nD => (toks c : sProp 𝕄))
    ⊢ bigSep Finset.univ fun c : Dev nD => iprop(dutyTok ER (barCell (peer c)) 0 () ∗ dutyTok ER (recvCell (peer c)) 0 () ∗ dutyTok ER (sendCell c) 0 ()) := by
  unfold toks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨HB, HS, HR⟩
  isplitl [HB]; · iexact HB
  isplitl [HR]; · iexact HR
  iexact HS

omit [FloatOps F] in
theorem alone_all : (bigSep Finset.univ fun c : Dev nD => (alone c : sProp 𝕄))
    = iprop((bigSep Finset.univ fun c : Dev nD => bigSep Finset.univ fun k : Fin 3 => atPos ER (kcell (c, k)) 0 ∅ 0)
      ∗ (bigSep Finset.univ fun c : Dev nD => iprop(dutyTok ER (barCell (peer c)) 0 () ∗ dutyTok ER (recvCell (peer c)) 0 () ∗ dutyTok ER (sendCell c) 0 ()))
      ∗ bigSep Finset.univ fun c : Dev nD => copySems c) := by
  unfold alone
  exact (bigSep_sep' Finset.univ _ _).trans (congrArg _ (bigSep_sep' Finset.univ _ _))

omit [FloatOps F] in
/-- A fact that may be repeated goes to every device. -/
theorem to_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (BI.sep_mono (BI.bigSep_of_persistent (Finset.univ : Finset (Dev nD)) R) (BI.Entails.refl _)).trans
    ((Entails.of_eq (bigSep_sep' Finset.univ (fun _ => R) Φ).symm).trans (bigSep_mono fun c _ => h c))

theorem regroup :
    (bigSep Finset.univ fun c : Dev nD => iprop((bigSep Finset.univ fun k => iprop(∃ κ : ℕ, cellInv ER (sched m) κ (kcell (c, k))))
        ∗ posAt c ∗ toks c ∗ copySems c) : sProp 𝕄)
      ⊢ bigSep Finset.univ (ready m) := by
  unfold posAt
  rw [bigSep_sep', bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hcs⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_swapped (F := F)) $$ Htok
  iapply (to_each (R := known m K) fun c => ready_intro m K c)
  isplitr
  · unfold known; isplitl; · iexact HI
    iexact HR
  · iapply (Entails.of_eq (alone_all (F := F)).symm)
    isplitl [Hat]; · iexact Hat
    isplitl [Htk]; · iexact Htk
    iexact Hcs

theorem glob : (bigSep Finset.univ fun c => iprop(Pipeline.ownSems0 (Ix := Unit) (Name := ℕ) (U := PairUU) (Lvl := ℕ) (Val := Elt F) (τ := τ) osem c ∗ unscopedSems0 c ∗ dealt m c) : sProp 𝕄)
    ⊢ |={Set.univ}=> bigSep Finset.univ (ready m) :=
  ((bigSep_mono fun c _ => alloc_device m c).trans (bigSep_fupd _ _)).trans (BI.fupd_mono (regroup m))

/-! ## The credit at launch -/

theorem bar_inj {a b : Dev nD} (h : barCell a = barCell b) : a = b := congrArg (fun g : GSem nD τ sig => g.1.1) h
theorem recv_inj {a b : Dev nD} (h : recvCell a = recvCell b) : a = b := congrArg (fun g : GSem nD τ sig => g.1.1) h

/-- A barrier is owed one unit, by its device's partner; -/
theorem owed_bar (d c : Dev nD) : owed₀ d (barCell c) () = if d = peer c then 1 else 0 := by
  unfold owed₀ owedMid
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [bar_inj h1, peer_peer])), if_neg h]
/-- a receive cell the rows, by the same. -/
theorem owed_recv (d c : Dev nD) : owed₀ d (recvCell c) () = if d = peer c then N else 0 := by
  unfold owed₀ owedMid
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [recv_inj h1, peer_peer])), if_neg h]

theorem credit_bar (c : Dev nD) :
    tallyOn (barCell c) (launchCredit (Pipeline.owing owed₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]
theorem credit_recv (c : Dev nD) :
    tallyOn (recvCell c) (launchCredit (Pipeline.owing owed₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred owed₀ c : sProp 𝕄) ⊢ iprop(cred (tallyAt (barCell c) () 1) ∗ cred (tallyAt (recvCell c) () N)) := by
  unfold Pipeline.launchCred
  rw [bigSep_univ_at _ (SemLoc.reg barS), credit_bar]
  refine BI.sep_mono (BI.Entails.refl _) ?_
  rw [← credit_recv]
  exact bigSep_elim (Finset.mem_erase.mpr ⟨recv_ne_bar, Finset.mem_univ _⟩)

/-! ## What the launch asks -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ready m c)
      ⊢ |={Set.univ}=> iprop(start m c ∗ emp) := by
  rw [Pipeline.unscopedRestP_none, unscopedRest0_eq]
  unfold ready
  iintro ⟨Ha, Hlev, Hcr, -, Hg, Hcs⟩
  ihave Hc := (creds (F := F) c) $$ Hcr
  imodintro
  unfold start argPts
  isplitl
  · isplitl [Hg]; · iexact Hg
    isplitl [Hc]; · iexact Hc
    isplitl [Hlev]; · iexact Hlev
    isplitl [Hcs]; · iexact Hcs
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop((unscopedSems0 c ∗ argPts m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scratch copySems
  iintro ⟨Hr, Ha, ⟨H0, H1, H2, H3⟩, HS, HR, HB⟩
  isplitl [HB Ha]
  · isplitl [HB]; · iexact HB
    iexact Ha
  isplitr [Hr]
  · isplitl [H0]; · iexact H0
    isplitl [H1]; · iexact H1
    isplitl [H2]; · iexact H2
    isplitl [H3]; · iexact H3
    isplitl [HS]; · iexact HS
    iexact HR
  iexact Hr

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ fun g u h => by
      rcases t with ⟨_ | _, ht⟩
      · exact owed₀_pos h
      · exact absurd h (Nat.lt_irrefl 0)

/-- What the run leaves on device `c` besides the result: the unscoped counter at zero and the arguments as launched. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem left_read (c : Dev nD) (s' : Phys nD τ sig (Elt F)) :
    iprop((unscopedSems0 c ∗ argPts m c) ∗ emp ∗ SI s') ⊢ |={Set.univ}=> (iprop(⌜Left m c s'.mem⌝ ∗ SI s') : sProp 𝕄) := by
  unfold argPts
  iintro ⟨⟨Hu, H0, H1, H2⟩, -, HSI⟩
  ihave %h0 := (SI_pointsTo_agree (st := s') (ℓ := (c : Thread nD τ).loc main_arg0) (I := Finset.univ)) $$ [HSI H0]
  · isplitl [HSI]; · iexact HSI
    iexact H0
  ihave %h1 := (SI_pointsTo_agree (st := s') (ℓ := (c : Thread nD τ).loc main_arg1) (I := Finset.univ)) $$ [HSI H1]
  · isplitl [HSI]; · iexact HSI
    iexact H1
  ihave %h2 := (SI_pointsTo_agree (st := s') (ℓ := (c : Thread nD τ).loc main_arg2) (I := Finset.univ)) $$ [HSI H2]
  · isplitl [HSI]; · iexact HSI
    iexact H2
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => h0 i (Finset.mem_univ i), funext fun i => h1 i (Finset.mem_univ i), funext fun i => h2 i (Finset.mem_univ i)⟩
  iexact HSI

/-! ## The run -/

/-- What a final state holds: on every device the result array at `outOf`, the arguments as launched. -/
def Done (r : PUnit × MemSt nD τ sig (Elt F)) : Prop :=
  ∀ c : Dev nD, r.2.mem ((c : Thread nD τ).loc main_v1) = outOf m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

/-- The result array after the one point is what the body left in its window. -/
theorem arr_final (c : Dev nD) : (dats m 0 c).arrAt (0 : Fin 1) cfg0.N = outOf m c := by
  refine (dats m 0 c).arrAt_eq_of_after_last (0 : Fin 1) t0_0 (by decide +kernel) (outOf m c) fun j => ?_
  rfl

/-- On the mesh of eight devices, for any float values, from any memory with zero counters: every weakly fair execution of
    @main terminates, and every final state has on each device the result `outOf`, the arguments as launched, and every
    counter at zero. -/
theorem run_main : θ_run defs (onTc (τ := τ) (main (F := F))) ⟨m, fun _ => 0, ρ⟩ (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w; exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (u₀_split _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m) (hout := phi1_exit m)
    (QY := Left m) (hY := left_read m)
    (hQ := fun s h hs => ⟨fun c => ⟨((h c).1 (0 : Fin 1)).trans (arr_final m c), (h c).2.2.2⟩, sem_eq_zero hs fun c => (h c).2.2.1⟩)

end Cert.Exchange

end
-- ==== Proof.Frames.lean ====
/-
The frames: every run ends, the arguments as launched and every counter at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.PureOps.BitExact

@[expose] public section

set_option maxRecDepth 16384

noncomputable section

namespace Cert.Exchange

open Idealize.ShloMosaic Idealize.ShloMosaic.TcCoe Idealize.SL.Sem

attribute [instance] Cert.Kernel.Gen.facts Cert.KernelIdeal.Gen.facts Cert.ReferenceIdeal.Gen.facts

/-- The side conditions of the precondition on a device's blocks. -/
theorem tame_facts : Cert.Pre_inputs_tame_KernelIdeal.Facts where
  bcast_S_S256x512 := by decide
  reducesTo_S256x512_S_d0_1 := by decide
  h_S_ := by decide
  bcast_S_S512x4096 := by decide
  reducesTo_S512x4096_S_d0_1 := by decide
  bcast_S_S256 := by decide
  reducesTo_S256_S_d0 := by decide

/-- The same of the precondition read on the reference's whole arrays. -/
theorem tame_facts_whole : Cert.Pre_inputs_tame_ReferenceIdeal.Facts where
  bcast_S_S256x512 := by decide
  reducesTo_S256x512_S_d0_1 := by decide
  h_S_ := by decide
  bcast_S_S512x8192 := by decide
  reducesTo_S512x8192_S_d0_1 := by decide
  bcast_S_S256 := by decide
  reducesTo_S256_S_d0 := by decide

/-- The idealized kernel runs, leaves its arguments as they were, and ends with every counter at zero; -/
theorem frame_ideal : Cert.quiescent_KernelIdeal := fun m ρ _ =>
  (θ_run Cert.KernelIdeal.defs _ _).mono (fun _ h => ⟨fun c => (h.1 c).2, h.2⟩) (run_main (F := Ideal) m ρ)

/-- The two programs print one body, -/
theorem bodies_agree : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (_, _) => rfl
/-- and so have one table of bodies. -/
theorem tables_agree : Cert.Kernel.defs (F := Bits) = Cert.KernelIdeal.defs (F := Bits) := by
  unfold Cert.Kernel.defs Cert.KernelIdeal.defs
  exact congrArg (Pipeline.defs _) bodies_agree

/-- The kernel over its own float values does the same, by the same run. -/
theorem frame_kernel : Cert.quiescent_Kernel := fun m ρ _ => by
  rw [tables_agree]
  exact (θ_run Cert.KernelIdeal.defs _ _).mono (fun _ h => ⟨fun c => (h.1 c).2, h.2⟩) (run_main (F := Bits) m ρ)

/-- The reference is host code: it runs, leaves its arguments, and has no semaphore to leave at anything but zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.DeviceValue.lean ====
/-
What one device computes over the extended reals: the two rows of partial sums, at each token.
-/
module

public import proofs.«01_k».proof.Proof.Protocol
public import Idealize.ShloMosaic.Lib.Pointwise
public import Idealize.ShloMosaic.Lib.StableHlo.Predicate

@[expose] public section

set_option maxRecDepth 16384

noncomputable section

namespace Cert.Exchange

open Cert.KernelIdeal Cert.KernelIdeal.Gen
open Idealize.ShloMosaic Idealize.ShloMosaic.TcCoe

/-- The logits of 512 columns. -/
def tile (x : Vec Ideal S256x512 .f32) (L : Vec Ideal S512x512 .f32) : FVec Ideal S256x512 .f32 := k0_pay3 x L

/-- A logit of a piece is the sum over the model axis of the products. -/
theorem tile_apply (x : Vec Ideal S256x512 .f32) (L : Vec Ideal S512x512 .f32) (r : Fin 256) (k : Fin 512) :
    tile x L (ix2 r k) = ∑ d : Fin 512, x (ix2 r d) * L (ix2 d k) := by
  pointwise [tile, k0_pay3]

/-- A column of a piece is a column of the half it was cut from. -/
theorem lanes_apply (W : Vec Ideal S512x4096 .f32) (o : ℕ) (h) (d k : Fin 512) (hk : o + k.val < 4096) :
    lanes W o h (ix2 d k) = W (ix2 d ⟨o + k.val, hk⟩) := by
  unfold lanes
  rw [View.readAt_apply, View.read_apply, cast_eq]
  refine congrArg W (funext fun a => Fin.ext ?_)
  fin_cases a
  · show 0 + 1 * d.val = d.val
    omega
  · show o + 1 * k.val = o + k.val
    omega

/-- A sum over 4096 columns, in eight pieces of 512. -/
theorem sum_eight (g : ℕ → EReal) :
    ∑ k : Fin 512, g (0 + k.val) + ∑ k : Fin 512, g (512 + k.val) + ∑ k : Fin 512, g (1024 + k.val) + ∑ k : Fin 512, g (1536 + k.val)
      + ∑ k : Fin 512, g (2048 + k.val) + ∑ k : Fin 512, g (2560 + k.val) + ∑ k : Fin 512, g (3072 + k.val) + ∑ k : Fin 512, g (3584 + k.val)
      = ∑ k ∈ Finset.range 4096, g k := by
  have step : ∀ n, ∑ k ∈ Finset.range (n + 512), g k = ∑ k ∈ Finset.range n, g k + ∑ k : Fin 512, g (n + k.val) := fun n => by
    rw [Finset.sum_range_add, Finset.sum_range (fun k => g (n + k))]
  rw [step 3584, step 3072, step 2560, step 2048, step 1536, step 1024, step 512, step 0, Finset.sum_range_zero, zero_add]

/-- The logit of a token at a column of a half (0 past the half). -/
def halfLogit (x : Vec Ideal S256x512 .f32) (W : Vec Ideal S512x4096 .f32) (r : Fin 256) (n : ℕ) : EReal :=
  if h : n < 4096 then ∑ d : Fin 512, x (ix2 r d) * W (ix2 d ⟨n, h⟩) else 0

/-- A logit of a piece is the half's logit at the piece's column. -/
theorem tile_lanes (x : Vec Ideal S256x512 .f32) (W : Vec Ideal S512x4096 .f32) (o : ℕ) (h) (ho : o ≤ 3584) (r : Fin 256) (k : Fin 512) :
    tile x (lanes W o h) (ix2 r k) = halfLogit x W r (o + k.val) := by
  have hk : o + k.val < 4096 := by omega
  rw [tile_apply, halfLogit, dif_pos hk]
  exact Finset.sum_congr rfl fun d _ => by rw [lanes_apply W o h d k hk]

/-- The row of sums holds, for each token, the sum of the exponentials of its logits over the device's half. -/
theorem expRow_apply (x : Vec Ideal S256x512 .f32) (W : Vec Ideal S512x4096 .f32) (r : Fin 256) :
    expRow x W (ix2 0 r) = ∑ k ∈ Finset.range 4096, Ideal.exp (halfLogit x W r k) := by
  have e3 : @k0_pay3 Ideal _ = tile := rfl
  have e6 : @k0_pay6 Ideal _ = tile := rfl
  have e8 : @k0_pay8 Ideal _ = tile := rfl
  have e9 : @k0_pay9 Ideal _ = tile := rfl
  have e12 : @k0_pay12 Ideal _ = tile := rfl
  have e13 : @k0_pay13 Ideal _ = tile := rfl
  have e15 : @k0_pay15 Ideal _ = tile := rfl
  have e18 : @k0_pay18 Ideal _ = tile := rfl
  pointwise [expRow, expRun, k0_pay19, k0_pay16, k0_pay10, k0_pay4, k0_pay7, e3, e6, e8, e9, e12, e13, e15, e18]
  rw [← sum_eight]
  simp only [tile_lanes, Nat.reduceLeDiff]

/-- Word arithmetic of the label test: a column of the piece at offset `o` equals the label less the half's and the
    piece's offset exactly when the label is that column of the whole. -/
theorem label_test (v l : BitVec 32) (o k : ℕ) (hv : v.toNat < 2) (hl : l.toNat < 8192) (ho : o ≤ 3584) (hk : k < 512) :
    BitVec.ofNat 32 k = l - v * 4096#32 - BitVec.ofNat 32 o ↔ v.toNat * 4096 + (o + k) = l.toNat := by
  rw [← BitVec.toNat_inj]
  simp only [BitVec.toNat_sub, BitVec.toNat_mul, BitVec.toNat_ofNat]
  omega

/-- The selected logit of one piece at one column. -/
theorem pick_term (v : BitVec 32) (x : Vec Ideal S256x512 .f32) (W : Vec Ideal S512x4096 .f32) (l : BitVec 32) (o : ℕ) (h) (r : Fin 256)
    (k : Fin 512) (hv : v.toNat < 2) (hl : l.toNat < 8192) (ho : o ≤ 3584) :
    Scalar.select (IntOp.cmpi .eq (BitVec.ofNat 32 k.val) (IntOp.subi (IntOp.subi l (Scalar.muli v 4096#32)) (BitVec.ofNat 32 o)))
        (tile x (lanes W o h) (ix2 r k)) 0
      = if v.toNat * 4096 + (o + k.val) = l.toNat then halfLogit x W r (o + k.val) else 0 := by
  rw [tile_lanes x W o h ho, Scalar.select]
  refine if_congr ?_ rfl rfl
  rw [← label_test v l o k.val hv hl ho k.isLt]
  exact StableHlo.Predicate.cmpi_eq_iff

/-- The row of picked logits holds, for each token, the logit at its label when the label's column is in the device's
    half, and 0 otherwise. -/
theorem pickRow_apply (v : BitVec 32) (x : Vec Ideal S256x512 .f32) (W : Vec Ideal S512x4096 .f32) (l : Vec Ideal S256 .i32) (r : Fin 256)
    (hv : v.toNat < 2) (hl : BitVec.toNat (w := 32) (l (ix1 r)) < 8192) :
    pickRow v x W l (ix2 0 r)
      = ∑ k ∈ Finset.range 4096, if v.toNat * 4096 + k = BitVec.toNat (w := 32) (l (ix1 r)) then halfLogit x W r k else 0 := by
  have e3 : @k0_pay3 Ideal _ = tile := rfl
  have e6 : @k0_pay6 Ideal _ = tile := rfl
  have e8 : @k0_pay8 Ideal _ = tile := rfl
  have e9 : @k0_pay9 Ideal _ = tile := rfl
  have e12 : @k0_pay12 Ideal _ = tile := rfl
  have e13 : @k0_pay13 Ideal _ = tile := rfl
  have e15 : @k0_pay15 Ideal _ = tile := rfl
  have e18 : @k0_pay18 Ideal _ = tile := rfl
  pointwise [pickRow, pickRun, k0_pay20, k0_pay17, k0_pay14, k0_pay11, k0_pay5, k0_pay2, colIota, e3, e6, e8, e9, e12, e13, e15, e18]
  rw [← sum_eight fun k => if v.toNat * 4096 + k = BitVec.toNat (w := 32) (l (ix1 r)) then halfLogit x W r k else 0]
  have t := fun o h ho => Finset.sum_congr rfl fun k (_ : k ∈ (Finset.univ : Finset (Fin 512))) => pick_term v x W (l (ix1 r)) o h r k hv hl ho
  exact congrArg₂ _ (congrArg₂ _ (congrArg₂ _ (congrArg₂ _ (congrArg₂ _ (congrArg₂ _ (congrArg₂ _ (t 0 _ (by decide)) (t 512 _ (by decide)))
    (t 1024 _ (by decide))) (t 1536 _ (by decide))) (t 2048 _ (by decide))) (t 2560 _ (by decide))) (t 3072 _ (by decide))) (t 3584 _ (by decide))

end Cert.Exchange

end
-- ==== Proof.RefValue.lean ====
/-
What the reference computes over the extended reals, at each token.
-/
module

public import proofs.«01_k».proof.Proof.Gen.ReferenceIdeal
public import proofs.«01_k».proof.Proof.Gen.ReferenceIdeal.Run
public import Idealize.ShloMosaic.Lib.Pointwise
public import Idealize.ShloMosaic.Lib.StableHlo.Predicate
public import Idealize.ShloMosaic.Lib.ValueIdxCore

@[expose] public section

set_option maxRecDepth 16384

noncomputable section

namespace Cert.Exchange.Whole

open Cert.ReferenceIdeal Cert.ReferenceIdeal.Gen Cert.ReferenceIdeal.Value
open Idealize.ShloMosaic Idealize.ShloMosaic.TcCoe

/-- The reference's logits. -/
def logits (x : Vec Ideal S256x512 .f32) (W : Vec Ideal S512x8192 .f32) : FVec Ideal S256x8192 .f32 :=
  Host.dotGeneral (φ₁ := .f32) (φ₂ := .f32) dot_S256x512_S512x8192_S256x8192_1_0_0_1_n_n none x W

/-- A logit is the sum over the model axis of the products. -/
theorem logits_apply (x : Vec Ideal S256x512 .f32) (W : Vec Ideal S512x8192 .f32) (r : Fin 256) (k : Fin 8192) :
    logits x W (ix2 r k) = ∑ d : Fin 512, x (ix2 r d) * W (ix2 d k) := by
  pointwise [logits]

/-- The largest logit of each token. -/
def tops (x : Vec Ideal S256x512 .f32) (W : Vec Ideal S512x8192 .f32) : FVec Ideal S256 .f32 :=
  Host.reduce FloatOps.maximumf (logits x W) (constant S_ .f32 0xFF800000#32) reducesTo_S256x8192_S256_d1 h_S_

/-- A token's largest logit, as a fold of `max` over the columns. -/
theorem tops_apply (x : Vec Ideal S256x512 .f32) (W : Vec Ideal S512x8192 .f32) (r : Fin 256) :
    tops x W (ix1 r) = (Finset.univ : Finset (Fin 8192)).fold max ⊥ fun k => logits x W (ix2 r k) := by
  pointwise [tops]
  simp [Ideal.ofBits, Ideal.ieee]

/-- The log of the sum of exponentials of each token's logits, the largest taken out first. -/
def logSum (x : Vec Ideal S256x512 .f32) (W : Vec Ideal S512x8192 .f32) : FVec Ideal S256 .f32 :=
  shapeCast _ (addf (broadcastInDim S256x1 ![0] bcast_S256_S256x1_0 (tops x W))
    (Host.log (broadcastInDim S256x1 ![0] bcast_S256_S256x1_0 (Host.reduceAdd (Host.exp (subf (logits x W)
      (broadcastInDim S256x8192 ![0, 1] bcast_S256x1_S256x8192_0_1 (broadcastInDim S256x1 ![0] bcast_S256_S256x1_0 (tops x W)))))
      (constant S_ .f32 0x00000000#32) reducesTo_S256x8192_S256_d1 h_S_)))) shapeCasts_S256x1_S256

/-- At a token: the largest logit plus the log of the sum of the exponentials of the differences from it. -/
theorem logSum_apply (x : Vec Ideal S256x512 .f32) (W : Vec Ideal S512x8192 .f32) (r : Fin 256) :
    logSum x W (ix1 r) = tops x W (ix1 r) + Ideal.log (∑ k : Fin 8192, Ideal.exp (logits x W (ix2 r k) - tops x W (ix1 r))) := by
  pointwise [logSum]

end Cert.Exchange.Whole

end
-- ==== Proof.Pick.lean ====
/-
A gather of single elements of a matrix, one row number and one column number per result, read at a result.
-/
module

public import Idealize.ShloMosaic.PureOps
public import Idealize.ShloMosaic.Lib.ValueIdxCore
public import Idealize.ShloMosaic.Lib.Pointwise.Index

@[expose] public section

noncomputable section

namespace Cert.Exchange

open Idealize.ShloMosaic

/-- The dimension numbers of `v[rows, cols]` for an `N` by `C` matrix and `R` pairs of row and column. -/
abbrev pairDims (N C R : Nat) (wf : GatherDims.WF ⟨2, ![N, C]⟩ ⟨2, ![R, 2]⟩ ⟨1, ![R]⟩ [] [0, 1] [] [0, 1] [] 1 ![1, 1]) :
    GatherDims ⟨2, ![N, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The result for pair `r` is the matrix's element at the pair's row and column, when both are in range. -/
theorem gather_pairs {α : Type} {N C R : Nat} (wf : GatherDims.WF ⟨2, ![N, C]⟩ ⟨2, ![R, 2]⟩ ⟨1, ![R]⟩ [] [0, 1] [] [0, 1] [] 1 ![1, 1])
    (v : (⟨2, ![N, C]⟩ : Shape).Idx → α) (idx : IVec ⟨2, ![R, 2]⟩ 32) (r : Fin R) (a : Fin N) (b : Fin C)
    (ha : (idx (ix2 r 0)).toInt.toNat = a.val) (hb : (idx (ix2 r 1)).toInt.toNat = b.val) :
    Host.gather (pairDims N C R wf) v idx (ix1 r) = v (ix2 a b) := by
  unfold Host.gather
  congr 1
  funext q
  refine Fin.ext ?_
  show (pairDims N C R wf).start (ix1 r) idx q + (pairDims N C R wf).batchCoord (ix1 r) q + (pairDims N C R wf).offCoord (ix1 r) q = _
  have hq : q = 0 ∨ q = 1 := by
    match q with
    | ⟨0, _⟩ => exact Or.inl rfl
    | ⟨1, _⟩ => exact Or.inr rfl
  have hm : q ∈ (pairDims N C R wf).startIndexMap := by
    rcases hq with rfl | rfl
    · exact List.mem_cons_self ..
    · exact List.mem_cons_of_mem _ (List.mem_cons_self ..)
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos hm]
  rcases hq with rfl | rfl
  · have hsi : (pairDims N C R wf).siIdx (ix1 r) ⟨List.idxOf (0 : Fin 2) (pairDims N C R wf).startIndexMap, List.idxOf_lt_length_iff.2 hm⟩ = ix2 r 0 := by
      funext e; refine Fin.ext ?_
      match e with
      | ⟨0, _⟩ => rfl
      | ⟨1, _⟩ => rfl
    rw [hsi, ha]
    show min a.val (N - 1) = a.val
    have := a.isLt
    omega
  · have hsi : (pairDims N C R wf).siIdx (ix1 r) ⟨List.idxOf (1 : Fin 2) (pairDims N C R wf).startIndexMap, List.idxOf_lt_length_iff.2 hm⟩ = ix2 r 1 := by
      funext e; refine Fin.ext ?_
      match e with
      | ⟨0, _⟩ => rfl
      | ⟨1, _⟩ => rfl
    rw [hsi, hb]
    show min b.val (C - 1) = b.val
    have := b.isLt
    omega

end Cert.Exchange

end
-- ==== Proof.RefResult.lean ====
/-
The reference's result at each token: the log of the sum of exponentials, less the logit at the label.
-/
module

public import proofs.«01_k».proof.Proof.RefValue
public import proofs.«01_k».proof.Proof.Pick

@[expose] public section

set_option maxRecDepth 16384

noncomputable section

namespace Cert.Exchange.Whole

open Cert.ReferenceIdeal Cert.ReferenceIdeal.Gen Cert.ReferenceIdeal.Value
open Idealize.ShloMosaic Idealize.ShloMosaic.TcCoe Idealize.SL Idealize.SL.Sem

/-- The row numbers the reference gathers at: each token's own, a negative one wrapped. -/
def rowNos : IVec S256 32 :=
  select (cmpi .slt (iotaInDim S256 32 0) (broadcastInDim S256 ![] bcast_S_S256 (constantI S_ 32 0#32)))
    (addi (iotaInDim S256 32 0) (broadcastInDim S256 ![] bcast_S_S256 (constantI S_ 32 256#32))) (iotaInDim S256 32 0)

/-- The column numbers: each token's label, a negative one wrapped. -/
def colNos (l : Vec Ideal S256 .i32) : IVec S256 32 :=
  select (cmpi .slt l (broadcastInDim S256 ![] bcast_S_S256 (constantI S_ 32 0#32)))
    (addi l (broadcastInDim S256 ![] bcast_S_S256 (constantI S_ 32 8192#32))) l

/-- The two, side by side. -/
def pairNos (l : Vec Ideal S256 .i32) : IVec S256x2 32 :=
  concatenate S256x2 1 [⟨S256x1, broadcastInDim S256x1 ![0] bcast_S256_S256x1_0 rowNos⟩,
    ⟨S256x1, broadcastInDim S256x1 ![0] bcast_S256_S256x1_0 (colNos l)⟩] concatenates_S256x1_S256x1_S256x2_d1

/-- A number that is not negative is not wrapped. -/
theorem wrap_small (a b : BitVec 32) (ha : a.toNat < 2 ^ 31) : Scalar.select (IntOp.cmpi .slt a 0#32) b a = a := by
  refine Scalar.select_of_ne_one (fun h => ?_) b a
  have h' := IntOp.cmpi_slt.1 h
  rw [StableHlo.Predicate.toInt_eq_toNat_of_lt ha] at h'
  simp at h'
  omega

/-- A token's row number is its own position. -/
theorem rowNos_apply (r : Fin 256) : rowNos (ix1 r) = BitVec.ofNat 32 r.val := by
  pointwise [rowNos]
  exact wrap_small _ _ (by rw [BitVec.toNat_ofNat]; omega)

/-- A token's column number is its label, when the label is not negative. -/
theorem colNos_apply (l : Vec Ideal S256 .i32) (r : Fin 256) (hl : BitVec.toNat (w := 32) (l (ix1 r)) < 8192) :
    colNos l (ix1 r) = l (ix1 r) := by
  pointwise [colNos]
  exact wrap_small _ _ (by omega)

/-- The first column of the pairs is the row numbers. -/
theorem pairNos_row (l : Vec Ideal S256 .i32) (r : Fin 256) : pairNos l (ix2 r 0) = rowNos (ix1 r) := by
  pointwise [pairNos]

/-- The second is the column numbers. -/
theorem pairNos_col (l : Vec Ideal S256 .i32) (r : Fin 256) : pairNos l (ix2 r 1) = colNos l (ix1 r) := by
  pointwise [pairNos]

/-- The reference's result as one function of the three arguments. -/
def refOut (x : Vec Ideal S256x512 .f32) (W : Vec Ideal S512x8192 .f32) (l : Vec Ideal S256 .i32) : Vec Ideal S256 .f32 :=
  subf (logSum x W) (Host.gather gather_S256x8192_S256x2_S256_n_01_n_n_01_1_11 (logits x W) (pairNos l))

/-- The gathered logit is the one at the token's label. -/
theorem gathered_apply (x : Vec Ideal S256x512 .f32) (W : Vec Ideal S512x8192 .f32) (l : Vec Ideal S256 .i32) (r : Fin 256)
    (hl : BitVec.toNat (w := 32) (l (ix1 r)) < 8192) :
    Host.gather gather_S256x8192_S256x2_S256_n_01_n_n_01_1_11 (logits x W) (pairNos l) (ix1 r) = logits x W (ix2 r ⟨_, hl⟩) := by
  refine gather_pairs _ (logits x W) (pairNos l) r r ⟨_, hl⟩ ?_ ?_
  · rw [pairNos_row, rowNos_apply, StableHlo.Predicate.toInt_ofNat_small _ (by omega)]
    rfl
  · rw [pairNos_col, colNos_apply l r hl, StableHlo.Predicate.toInt_eq_toNat_of_lt (by omega)]
    rfl

/-- The reference's result at a token. -/
theorem refOut_apply (x : Vec Ideal S256x512 .f32) (W : Vec Ideal S512x8192 .f32) (l : Vec Ideal S256 .i32) (r : Fin 256)
    (hl : BitVec.toNat (w := 32) (l (ix1 r)) < 8192) :
    refOut x W l (ix1 r) = tops x W (ix1 r) + Ideal.log (∑ k : Fin 8192, Ideal.exp (logits x W (ix2 r k) - tops x W (ix1 r)))
      - logits x W (ix2 r ⟨_, hl⟩) := by
  unfold refOut
  rw [subf_apply, logSum_apply, gathered_apply x W l r hl]
  rfl

/-- Every fair run of the reference ends with that result on every device and its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.Exchange.Whole

end
-- ==== Proof.Equation.lean ====
/-
The one equation of the certificate, over the reals: the log of a sum of exponentials may have any number taken out
of the exponents and added back outside.
-/
module

public import Idealize.ShloMosaic.PureOps.Ideal
public import Idealize.ShloMosaic.Lib.Pointwise

@[expose] public section

noncomputable section

namespace Cert.Exchange

open Idealize.ShloMosaic

/-- A finite sum of reals, read as an extended real, is the sum of the terms so read. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real is the real exponential. -/
theorem exp_real (a : ℝ) : Ideal.exp (a : EReal) = (Real.exp a : EReal) := rfl

/-- The logarithm of a positive real is the real logarithm. -/
theorem log_real {a : ℝ} (ha : 0 < a) : Ideal.log (a : EReal) = (Real.log a : EReal) := by
  show (if a ≤ 0 then (⊥ : EReal) else (Real.log a : EReal)) = _
  rw [if_neg (not_le.mpr ha)]

/-- The largest of finitely many reals is one of them: a real. -/
theorem max_real {n : ℕ} (hn : 0 < n) (f : Fin n → ℝ) :
    ∃ M : ℝ, (Finset.univ : Finset (Fin n)).fold max ⊥ (fun k => (f k : EReal)) = (M : EReal) := by
  haveI : Nonempty (Fin n) := ⟨⟨0, hn⟩⟩
  have h : ∀ s : Finset (Fin n), s.fold max ⊥ (fun k => (f k : EReal)) = s.sup fun k => (f k : EReal) := fun s => rfl
  obtain ⟨k, -, hk⟩ := Finset.exists_mem_eq_sup (Finset.univ : Finset (Fin n)) Finset.univ_nonempty fun k => (f k : EReal)
  exact ⟨f k, (h _).trans hk⟩

/-- Taking `M` out of the exponents of a log of a sum of exponentials and adding it back changes nothing. -/
theorem log_sum_shift {n : ℕ} (hn : 0 < n) (f : Fin n → ℝ) (M : ℝ) :
    (M : EReal) + Ideal.log (∑ k, Ideal.exp ((f k : EReal) - (M : EReal))) = Ideal.log (∑ k, Ideal.exp (f k : EReal)) := by
  haveI : Nonempty (Fin n) := ⟨⟨0, hn⟩⟩
  have e1 : ∑ k, Ideal.exp ((f k : EReal) - (M : EReal)) = ((∑ k, Real.exp (f k - M) : ℝ) : EReal) := by
    rw [coe_sum]
    exact Finset.sum_congr rfl fun k _ => by rw [← EReal.coe_sub, exp_real]
  have e2 : ∑ k, Ideal.exp (f k : EReal) = ((∑ k, Real.exp (f k) : ℝ) : EReal) := by
    rw [coe_sum]
    exact Finset.sum_congr rfl fun k _ => exp_real _
  have p1 : 0 < ∑ k, Real.exp (f k - M) := Finset.sum_pos (fun k _ => Real.exp_pos _) Finset.univ_nonempty
  have p2 : 0 < ∑ k, Real.exp (f k) := Finset.sum_pos (fun k _ => Real.exp_pos _) Finset.univ_nonempty
  have e3 : ∑ k, Real.exp (f k) = Real.exp M * ∑ k, Real.exp (f k - M) := by
    rw [Finset.mul_sum]
    exact Finset.sum_congr rfl fun k _ => by rw [← Real.exp_add]; congr 1; ring
  rw [e1, e2, log_real p1, log_real p2, e3, Real.log_mul (Real.exp_pos M).ne' p1.ne', Real.log_exp, EReal.coe_add]

/-- A sum of products of finite extended reals is a real. -/
theorem dot_real {n : ℕ} (f g : Fin n → EReal) (hf : ∀ d, ∃ a : ℝ, f d = a) (hg : ∀ d, ∃ a : ℝ, g d = a) :
    ∃ a : ℝ, ∑ d, f d * g d = (a : EReal) := by
  choose a ha using hf
  choose b hb using hg
  refine ⟨∑ d, a d * b d, ?_⟩
  rw [coe_sum]
  exact Finset.sum_congr rfl fun d _ => by rw [ha, hb, EReal.coe_mul]

end Cert.Exchange

end
-- ==== Proof.Value.lean ====
/-
Both programs' results at a token, as the same extended real: the kernel's two halves added up, and the reference's
log of the sum of exponentials with the largest logit put back.
-/
module

public import proofs.«01_k».proof.Proof.DeviceValue
public import proofs.«01_k».proof.Proof.RefResult
public import proofs.«01_k».proof.Proof.Equation
public import Idealize.ShloMosaic.Lib.Layout

@[expose] public section

set_option maxRecDepth 16384

noncomputable section

namespace Cert.Exchange

open Cert.KernelIdeal Cert.KernelIdeal.Gen
open Idealize.ShloMosaic Idealize.ShloMosaic.TcCoe

/-- The shape of the whole `W`. -/
abbrev S512x8192 : Shape := ⟨2, ![512, 8192]⟩

/-- The part of `W` on device `c`: the half of the columns that the device's last coordinate names. -/
def halfOf (W : Vec Ideal S512x8192 .f32) (c : Dev nD) : Vec Ideal S512x4096 .f32 :=
  Layout.blockN ⟨2, ![512, 4096]⟩ ⟨2, ![512, 8192]⟩ (Layout.meshBlock [2, 2, 2] ![[], [2]] c) W

/-- The logit of a token at a column of the whole `W` (0 past its end). -/
def logit (x : Vec Ideal S256x512 .f32) (W : Vec Ideal S512x8192 .f32) (r : Fin 256) (n : ℕ) : EReal :=
  if h : n < 8192 then ∑ d : Fin 512, x (ix2 r d) * W (ix2 d ⟨n, h⟩) else 0

/-- The number of a device's half is the last bit of its number. -/
theorem mesh_half (c : Dev nD) : Layout.meshLin [2, 2, 2] c.val [2] = c.val % 2 := by revert c; decide
/-- The kernel computes the same number, as a word. -/
theorem halfWord_toNat (c : Dev nD) : (halfWord c).toNat = c.val % 2 := by revert c; decide
/-- The partner's half is the other one. -/
theorem peer_half (c : Dev nD) : (peer c).val % 2 = 1 - c.val % 2 := by revert c; decide

/-- An entry of a device's half of `W` is an entry of `W`. -/
theorem halfOf_apply (W : Vec Ideal S512x8192 .f32) (c : Dev nD) (d : Fin 512) (k : Fin 4096) :
    halfOf W c (ix2 d k) = W (ix2 d ⟨c.val % 2 * 4096 + k.val, by omega⟩) := by
  unfold halfOf
  rw [Layout.blockN_apply]
  refine congrArg W (funext fun a => Fin.ext ?_)
  rw [Layout.TilesN.idx_val]
  fin_cases a
  · show 0 * 512 + d.val = d.val
    omega
  · show Layout.meshLin [2, 2, 2] c.val [2] * 4096 + k.val = c.val % 2 * 4096 + k.val
    rw [mesh_half]

/-- A logit of a device's half is the whole's logit at the column shifted by the half's offset. -/
theorem halfLogit_eq (x : Vec Ideal S256x512 .f32) (W : Vec Ideal S512x8192 .f32) (c : Dev nD) (r : Fin 256) (n : ℕ) (hn : n < 4096) :
    halfLogit x (halfOf W c) r n = logit x W r (c.val % 2 * 4096 + n) := by
  rw [halfLogit, dif_pos hn, logit, dif_pos (by omega)]
  exact Finset.sum_congr rfl fun d _ => by rw [halfOf_apply]

/-- The sums over a device's half and its partner's make the sum over all columns. -/
theorem two_halves (c : Dev nD) (g : ℕ → EReal) :
    ∑ k ∈ Finset.range 4096, g (c.val % 2 * 4096 + k) + ∑ k ∈ Finset.range 4096, g ((peer c).val % 2 * 4096 + k)
      = ∑ k ∈ Finset.range 8192, g k := by
  have e : ∑ k ∈ Finset.range 8192, g k = ∑ k ∈ Finset.range 4096, g (0 * 4096 + k) + ∑ k ∈ Finset.range 4096, g (1 * 4096 + k) := by
    rw [show 8192 = 4096 + 4096 from rfl, Finset.sum_range_add]
    simp only [zero_mul, zero_add, one_mul]
  rw [e, peer_half]
  rcases Nat.mod_two_eq_zero_or_one c.val with h | h
  · rw [h]
  · rw [h, add_comm]

/-- The logit at a column if it is column `t`, and 0 otherwise. -/
def atLabel (x : Vec Ideal S256x512 .f32) (W : Vec Ideal S512x8192 .f32) (r : Fin 256) (t n : ℕ) : EReal := if n = t then logit x W r n else 0

/-- Summed over all columns, that is the logit at column `t`. -/
theorem sum_atLabel (x : Vec Ideal S256x512 .f32) (W : Vec Ideal S512x8192 .f32) (r : Fin 256) {t : ℕ} (ht : t < 8192) :
    ∑ n ∈ Finset.range 8192, atLabel x W r t n = logit x W r t := by
  unfold atLabel
  rw [Finset.sum_ite_eq', if_pos (Finset.mem_range.2 ht)]

variable (m : (ℓ : Loc nD τ sig) → Buf (Elt Ideal) ℓ)

/-- The kernel's result on a device at a token: the log of the sum over all columns of the exponentials, less the
    logit at the label. -/
theorem outOf_apply (x : Vec Ideal S256x512 .f32) (W : Vec Ideal S512x8192 .f32) (l : Vec Ideal S256 .i32)
    (hx : ∀ c, xOf m c = x) (hW : ∀ c, wOf m c = halfOf W c) (hl : ∀ c, labOf m c = l) (c : Dev nD) (r : Fin 256)
    (hr : BitVec.toNat (w := 32) (l (ix1 r)) < 8192) :
    outOf m c (ix1 r) = Ideal.log (∑ k ∈ Finset.range 8192, Ideal.exp (logit x W r k)) - logit x W r (BitVec.toNat (w := 32) (l (ix1 r))) := by
  have e : ∀ c', expRow (xOf m c') (wOf m c') (ix2 0 r) = ∑ k ∈ Finset.range 4096, Ideal.exp (logit x W r (c'.val % 2 * 4096 + k)) := fun c' => by
    rw [hx, hW, expRow_apply]
    exact Finset.sum_congr rfl fun k hk => by rw [halfLogit_eq x W c' r k (Finset.mem_range.1 hk)]
  have p : ∀ c', pickRow (halfWord c') (xOf m c') (wOf m c') (labOf m c') (ix2 0 r)
      = ∑ k ∈ Finset.range 4096, atLabel x W r (BitVec.toNat (w := 32) (l (ix1 r))) (c'.val % 2 * 4096 + k) := fun c' => by
    rw [hx, hW, hl, pickRow_apply _ _ _ _ _ (by rw [halfWord_toNat]; omega) hr, halfWord_toNat]
    exact Finset.sum_congr rfl fun k hk => by rw [atLabel, halfLogit_eq x W c' r k (Finset.mem_range.1 hk)]
  have o : outOf m c (ix1 r) = Ideal.log (expRow (xOf m c) (wOf m c) (ix2 0 r) + expRow (xOf m (peer c)) (wOf m (peer c)) (ix2 0 r))
      - (pickRow (halfWord c) (xOf m c) (wOf m c) (labOf m c) (ix2 0 r)
        + pickRow (halfWord (peer c)) (xOf m (peer c)) (wOf m (peer c)) (labOf m (peer c)) (ix2 0 r)) := by
    pointwise [outOf, k0_pay1]
  rw [o, e, e, p, p, two_halves c fun n => Ideal.exp (logit x W r n), two_halves c (atLabel x W r _), sum_atLabel x W r hr]

/-- When the entries of `x` and `W` are reals, the reference's result at a token is that same value. -/
theorem refOut_eq (x : Vec Ideal S256x512 .f32) (W : Vec Ideal S512x8192 .f32) (l : Vec Ideal S256 .i32)
    (hx : ∀ i, ∃ a : ℝ, (x i : EReal) = a) (hW : ∀ i, ∃ a : ℝ, (W i : EReal) = a) (r : Fin 256)
    (hr : BitVec.toNat (w := 32) (l (ix1 r)) < 8192) :
    Whole.refOut x W l (ix1 r)
      = Ideal.log (∑ k ∈ Finset.range 8192, Ideal.exp (logit x W r k)) - logit x W r (BitVec.toNat (w := 32) (l (ix1 r))) := by
  have hlog : ∀ k : Fin 8192, Whole.logits x W (ix2 r k) = logit x W r k.val := fun k => by
    rw [Whole.logits_apply, logit, dif_pos k.isLt]
  have hreal : ∀ k : Fin 8192, ∃ a : ℝ, Whole.logits x W (ix2 r k) = (a : EReal) := fun k => by
    rw [Whole.logits_apply]
    exact dot_real _ _ (fun d => hx _) (fun d => hW _)
  choose f hf using hreal
  obtain ⟨M, hM⟩ := max_real (by decide : 0 < 8192) f
  have ht : Whole.tops x W (ix1 r) = (M : EReal) := by
    rw [Whole.tops_apply, ← hM]
    exact congrArg (fun g => (Finset.univ : Finset (Fin 8192)).fold max ⊥ g) (funext hf)
  rw [Whole.refOut_apply x W l r hr, hlog ⟨_, hr⟩, ht, Finset.sum_range]
  refine congrArg (· - logit x W r (BitVec.toNat (w := 32) (l (ix1 r)))) ?_
  have e1 : ∑ k : Fin 8192, Ideal.exp (Whole.logits x W (ix2 r k) - (M : EReal)) = ∑ k : Fin 8192, Ideal.exp ((f k : EReal) - (M : EReal)) :=
    Finset.sum_congr rfl fun k _ => by rw [hf]
  have e2 : ∑ k : Fin 8192, Ideal.exp (logit x W r k.val) = ∑ k : Fin 8192, Ideal.exp (f k : EReal) :=
    Finset.sum_congr rfl fun k _ => by rw [← hlog, hf]
  rw [e1, e2]
  exact log_sum_shift (by decide) f M

end Cert.Exchange

end
-- ==== Proof.Tame.lean ====
/-
What the precondition says of a device's arguments: the entries of `x` and of the half of `W` are real numbers, and the
labels are column numbers.
-/
module

public import proofs.«01_k».proof.Pre_inputs_tame_KernelIdeal
public import Idealize.ShloMosaic.PureOps.Ideal
public import Idealize.ShloMosaic.Lib.Pointwise
public import Idealize.ShloMosaic.Lib.ReduceAll
public import Idealize.ShloMosaic.Lib.Affine
public import Idealize.ShloMosaic.Lib.StableHlo.Predicate

@[expose] public section

set_option maxRecDepth 16384

noncomputable section

namespace Cert.Exchange

open Idealize.ShloMosaic
open Cert.Pre_inputs_tame_KernelIdeal

/-- An extended real whose absolute value is below infinity is a real. -/
theorem real_of_abs_lt (x : EReal) (h : max x (-x) < ⊤) : ∃ a : ℝ, x = a := by
  induction x with
  | bot => simp at h
  | coe a => exact ⟨a, rfl⟩
  | top => simp at h

/-- The same from the word of the printed comparison. -/
theorem real_of_word (x : Ideal .f32)
    (h : FloatOps.cmpf .olt (FloatOps.hostAbsf x) (FloatOps.ofBits (F := Ideal) .f32 0x7F800000#32) = 1#1) : ∃ a : ℝ, (x : EReal) = a := by
  refine real_of_abs_lt x ?_
  have h' : BitVec.ofBool (decide ((max (x : EReal) (-(x : EReal))) < Ideal.ofBits .f32 0x7F800000#32)) = 1#1 := h
  rw [StableHlo.Predicate.ofBool_eq_one_iff, decide_eq_true_eq] at h'
  rwa [show Ideal.ofBits .f32 0x7F800000#32 = ⊤ by simp [Ideal.ofBits, Ideal.ieee]] at h'

/-- A scalar has one index. -/
instance : Subsingleton S_.Idx := ⟨fun a b => funext fun d => d.elim0⟩

/-- The precondition at one device's arguments. -/
theorem tame_parts [Facts] (x : FVec Ideal S256x512 .f32) (W : FVec Ideal S512x4096 .f32) (l : IVec S256 32)
    (h : fn (F := Ideal) x W l = fun _ => 1#1) :
    (∀ i, ∃ a : ℝ, (x i : EReal) = a) ∧ (∀ i, ∃ a : ℝ, (W i : EReal) = a) ∧ ∀ i, (l i).toNat < 8192 := by
  have h0 := congrFun h (fun d => d.elim0)
  have split : ∀ a b : BitVec 1, a &&& b = 1#1 → a = 1#1 ∧ b = 1#1 := by decide
  obtain ⟨h1, hl⟩ := split _ _ h0
  obtain ⟨h2, hg⟩ := split _ _ h1
  obtain ⟨hx, hW⟩ := split _ _ h2
  refine ⟨fun i => real_of_word _ (Host.reduce_andi_all _ _ _ _ _ hx i), fun i => real_of_word _ (Host.reduce_andi_all _ _ _ _ _ hW i), fun i => ?_⟩
  have g1 := IntOp.cmpi_sge.1 (Host.reduce_andi_all _ _ _ _ _ hg i)
  have g2 := IntOp.cmpi_slt.1 (Host.reduce_andi_all _ _ _ _ _ hl i)
  have g1' : (0#32 : BitVec 32).toInt ≤ (l i).toInt := g1
  have g2' : (l i).toInt < (8192#32 : BitVec 32).toInt := g2
  rw [show (0#32 : BitVec 32).toInt = 0 from rfl] at g1'
  rw [show (8192#32 : BitVec 32).toInt = 8192 from rfl] at g2'
  rw [BitVec.toInt_eq_toNat_cond] at g1' g2'
  have := (l i).isLt
  split_ifs at g1' g2' <;> omega

end Cert.Exchange

end
-- ==== Proof.Algebraic.lean ====
/-
The value claim: over the extended reals, every device of the kernel ends with the reference's result.
-/
module

public import proofs.«01_k».proof.Defs
public import proofs.«01_k».proof.Proof.Run
public import proofs.«01_k».proof.Proof.Value
public import proofs.«01_k».proof.Proof.Tame

@[expose] public section

set_option maxRecDepth 16384

noncomputable section

namespace Cert.Exchange

open Cert.KernelIdeal Cert.KernelIdeal.Gen
open Idealize.ShloMosaic Idealize.ShloMosaic.TcCoe Idealize.SL Idealize.SL.Sem

attribute [instance] Cert.KernelIdeal.Gen.facts Cert.ReferenceIdeal.Gen.facts

/-- Every entry is a real number. -/
def RealEntries {s : Shape} (v : Vec Ideal s .f32) : Prop := ∀ i, ∃ a : ℝ, (v i : EReal) = a

/-- Equal arrays have real entries together. -/
theorem RealEntries.of_eq {s : Shape} {v w : Vec Ideal s .f32} (e : v = w) (h : RealEntries v) : RealEntries w := e ▸ h

/-- Every entry is a column number. -/
def ColumnNumbers {s : Shape} (v : Vec Ideal s .i32) : Prop := ∀ i, BitVec.toNat (w := 32) (v i) < 8192

/-- When both halves of `W` have real entries, so does `W`. -/
theorem whole_real (W : Vec Ideal S512x8192 .f32) (h : ∀ c, RealEntries (halfOf W c)) : RealEntries W := by
  intro i
  have h0 : (i 0).val < 512 := (i 0).isLt
  have h1 : (i 1).val < 8192 := (i 1).isLt
  let c : Dev nD := ⟨(i 1).val / 4096, show (i 1).val / 4096 < 8 by omega⟩
  obtain ⟨a, ha⟩ := h c (ix2 (⟨(i 0).val, h0⟩ : Fin 512) (⟨(i 1).val % 4096, Nat.mod_lt _ (by decide)⟩ : Fin 4096))
  refine ⟨a, ?_⟩
  rw [← ha, halfOf_apply]
  refine congrArg W (funext fun q => Fin.ext ?_)
  fin_cases q
  · rfl
  · show (i 1).val = (i 1).val / 4096 % 2 * 4096 + (i 1).val % 4096
    omega

/-- From arguments that are the reference's (each device its half of `W`), real entries and labels in range, both
    programs run and every device's result is the reference's. -/
theorem algebraic [Cert.Pre_inputs_tame_KernelIdeal.Facts] : Cert.algebraic_KernelIdeal_ReferenceIdeal_pre_inputs_tame_KernelIdeal := by
  intro m g m' g' hpre hargs
  have htame := fun c => tame_parts _ _ _ (hpre c)
  have hW : RealEntries (s := S512x8192) (m' (((0 : Dev Cert.ReferenceIdeal.nD).tc : Thread Cert.ReferenceIdeal.nD Cert.ReferenceIdeal.τ).loc Cert.ReferenceIdeal.main_arg1)) :=
    whole_real _ fun c => RealEntries.of_eq (s := S512x4096) (hargs c).2.1 (htame c).2.1
  have hx : RealEntries (s := S256x512) (m' (((0 : Dev Cert.ReferenceIdeal.nD).tc : Thread Cert.ReferenceIdeal.nD Cert.ReferenceIdeal.τ).loc Cert.ReferenceIdeal.main_arg0)) := (hargs 0).1 ▸ (htame 0).1
  have hl : ColumnNumbers (s := S256) (m' (((0 : Dev Cert.ReferenceIdeal.nD).tc : Thread Cert.ReferenceIdeal.nD Cert.ReferenceIdeal.τ).loc Cert.ReferenceIdeal.main_arg2)) := (hargs 0).2.2 ▸ (htame 0).2.2
  refine ⟨Whole.refOut _ _ _, (θ_run _ _ _).mono (fun r h c => ?_) (run_main (F := Ideal) m g),
    (θ_run _ _ _).mono (fun r h => h 0) (Whole.run_ref m' g')⟩
  refine ⟨((h.1 c).1).trans (funext fun j => ?_), (h.1 c).2⟩
  obtain ⟨r', rfl⟩ : ∃ r' : Fin 256, j = ix1 r' := ⟨j 0, funext fun q => by fin_cases q; rfl⟩
  exact (outOf_apply m _ _ _ (fun c => (hargs c).1) (fun c => (hargs c).2.1) (fun c => (hargs c).2.2) c r' (hl _)).trans
    (refOut_eq _ _ _ hx hW r' (hl _)).symm

end Cert.Exchange

end
-- ==== Proof.lean ====
/-
The claims, from the files that prove them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the three programs, with and without the precondition; nothing was rewritten; and the value claim. -/
theorem claim : Cert.Claim := ⟨Cert.Kernel.Gen.facts, Cert.KernelIdeal.Gen.facts, Cert.ReferenceIdeal.Gen.facts,
  Cert.Exchange.tame_facts, Cert.Exchange.tame_facts_whole,
  Cert.Exchange.frame_kernel, Cert.Exchange.frame_ideal, fun m ρ _ => Cert.Exchange.frame_ideal m ρ trivial,
  Cert.Exchange.frame_reference, fun m ρ _ => Cert.Exchange.frame_reference m ρ trivial, trivial,
  @Cert.Exchange.algebraic Cert.Exchange.tame_facts⟩

end Cert.Proof

end
